-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x8192 : Shape := ⟨2, ![4096, 8192]⟩
abbrev S4096x1024 : Shape := ⟨2, ![4096, 1024]⟩
abbrev S2x4096x512 : Shape := ⟨3, ![2, 4096, 512]⟩
abbrev S6x512x512 : Shape := ⟨3, ![6, 512, 512]⟩
abbrev S7x2x512x512 : Shape := ⟨4, ![7, 2, 512, 512]⟩
abbrev S2 : Shape := ⟨1, ![2]⟩
abbrev S14 : Shape := ⟨1, ![14]⟩
abbrev S1 : Shape := ⟨1, ![1]⟩
abbrev S_ : Shape := ⟨0, ![]⟩
abbrev S1x4096x512 : Shape := ⟨3, ![1, 4096, 512]⟩
abbrev S4096x512 : Shape := ⟨2, ![4096, 512]⟩
abbrev S512x512 : Shape := ⟨2, ![512, 512]⟩
abbrev S1x512x512 : Shape := ⟨3, ![1, 512, 512]⟩
abbrev S1x1x512x512 : Shape := ⟨4, ![1, 1, 512, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x4096, .f32⟩
  | .hbm, ⟨1, _⟩ => ⟨S4096x8192, .f32⟩
  | .hbm, ⟨2, _⟩ => ⟨S4096x1024, .f32⟩
  | .local _ .vmem, ⟨0, _⟩ => ⟨S512x4096, .f32⟩
  | .local _ .vmem, ⟨1, _⟩ => ⟨S4096x1024, .f32⟩
  | .local _ .vmem, ⟨2, _⟩ => ⟨S2x4096x512, .f32⟩
  | .local _ .vmem, ⟨3, _⟩ => ⟨S6x512x512, .bf16⟩
  | .local _ .vmem, ⟨4, _⟩ => ⟨S7x2x512x512, .bf16⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) (c0_i32_19 : BitVec 32) (c1_i32_17 : BitVec 32) (c0_i32_18 : BitVec 32) (c0_i32_24 : BitVec 32) : Fin 2 → Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v38 : BitVec 32 := Scalar.xori v19 c0_i32_19
  let c4_i32_23 : BitVec 32 := 4#32
  let v48 : BitVec 32 := Scalar.muli v38 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let c1_i32_12 : BitVec 32 := 1#32
  let c0_i32_13 : BitVec 32 := 0#32
  let v33 : BitVec 32 := Scalar.select v32 c1_i32_12 c0_i32_13
  let v36 : BitVec 32 := Scalar.xori v33 c1_i32_17
  let c1_i32_20 : BitVec 32 := 1#32
  let c2_i32_14 : BitVec 32 := 2#32
  let v34 : BitVec 1 := Scalar.cmpi .sge v29 c2_i32_14
  let c1_i32_15 : BitVec 32 := 1#32
  let c0_i32_16 : BitVec 32 := 0#32
  let v35 : BitVec 32 := Scalar.select v34 c1_i32_15 c0_i32_16
  let v37 : BitVec 32 := Scalar.xori v35 c0_i32_18
  let v39 : BitVec 32 := Scalar.subi c1_i32_20 v37
  let v40 : BitVec 32 := Scalar.muli v36 v39
  let c2_i32_21 : BitVec 32 := 2#32
  let v41 : BitVec 32 := Scalar.muli c2_i32_21 v36
  let v42 : BitVec 32 := Scalar.muli v41 v37
  let v43 : BitVec 32 := Scalar.addi v40 v42
  let c3_i32 : BitVec 32 := 3#32
  let c1_i32_22 : BitVec 32 := 1#32
  let v44 : BitVec 32 := Scalar.subi c1_i32_22 v36
  let v45 : BitVec 32 := Scalar.muli c3_i32 v44
  let v46 : BitVec 32 := Scalar.muli v45 v37
  let v47 : BitVec 32 := Scalar.addi v43 v46
  let v49 : BitVec 32 := Scalar.addi v48 v47
  let c1024_i32 : BitVec 32 := 1024#32
  let v50 : BitVec 32 := Scalar.muli v49 c1024_i32
  let v51 : BitVec 32 := Scalar.addi v50 c0_i32_24
  ![0, v51.toNat]
def k0_dev1 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let v58 : BitVec 32 := Scalar.addi v2 c1_i32_30
  let c8_i32_31 : BitVec 32 := 8#32
  let c0_i32_32 : BitVec 32 := 0#32
  let v59 : BitVec 1 := Scalar.cmpi .eq c8_i32_31 c0_i32_32
  let c1_i32_33 : BitVec 32 := 1#32
  let v60 : BitVec 32 := Scalar.select v59 c1_i32_33 c8_i32_31
  let v61 : BitVec 32 := Scalar.remsi v58 v60
  let c0_i32_35 : BitVec 32 := 0#32
  let v63 : BitVec 1 := Scalar.cmpi .slt v61 c0_i32_35
  let c0_i32_36 : BitVec 32 := 0#32
  let v64 : BitVec 1 := Scalar.cmpi .slt v60 c0_i32_36
  let v65 : BitVec 1 := Scalar.xori v63 v64
  let c0_i32_34 : BitVec 32 := 0#32
  let v62 : BitVec 1 := Scalar.cmpi .ne v61 c0_i32_34
  let v66 : BitVec 1 := Scalar.andi v65 v62
  let v67 : BitVec 32 := Scalar.addi v61 v60
  let v68 : BitVec 32 := Scalar.select v66 v67 v61
  let c1_i32_38 : BitVec 32 := 1#32
  let v69 : BitVec 32 := Scalar.muli v68 c1_i32_38
  let v70 : BitVec 32 := Scalar.addi c0_i32_39 v69
  v70.toNat
def k0_dev2 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_40 : BitVec 32 := 2#32
  let v71 : BitVec 32 := Scalar.addi v2 c2_i32_40
  let c8_i32_41 : BitVec 32 := 8#32
  let c0_i32_42 : BitVec 32 := 0#32
  let v72 : BitVec 1 := Scalar.cmpi .eq c8_i32_41 c0_i32_42
  let c1_i32_43 : BitVec 32 := 1#32
  let v73 : BitVec 32 := Scalar.select v72 c1_i32_43 c8_i32_41
  let v74 : BitVec 32 := Scalar.remsi v71 v73
  let c0_i32_45 : BitVec 32 := 0#32
  let v76 : BitVec 1 := Scalar.cmpi .slt v74 c0_i32_45
  let c0_i32_46 : BitVec 32 := 0#32
  let v77 : BitVec 1 := Scalar.cmpi .slt v73 c0_i32_46
  let v78 : BitVec 1 := Scalar.xori v76 v77
  let c0_i32_44 : BitVec 32 := 0#32
  let v75 : BitVec 1 := Scalar.cmpi .ne v74 c0_i32_44
  let v79 : BitVec 1 := Scalar.andi v78 v75
  let v80 : BitVec 32 := Scalar.addi v74 v73
  let v81 : BitVec 32 := Scalar.select v79 v80 v74
  let c1_i32_48 : BitVec 32 := 1#32
  let v82 : BitVec 32 := Scalar.muli v81 c1_i32_48
  let v83 : BitVec 32 := Scalar.addi c0_i32_49 v82
  v83.toNat
def k0_dev3 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_50 : BitVec 32 := 3#32
  let v84 : BitVec 32 := Scalar.addi v2 c3_i32_50
  let c8_i32_51 : BitVec 32 := 8#32
  let c0_i32_52 : BitVec 32 := 0#32
  let v85 : BitVec 1 := Scalar.cmpi .eq c8_i32_51 c0_i32_52
  let c1_i32_53 : BitVec 32 := 1#32
  let v86 : BitVec 32 := Scalar.select v85 c1_i32_53 c8_i32_51
  let v87 : BitVec 32 := Scalar.remsi v84 v86
  let c0_i32_55 : BitVec 32 := 0#32
  let v89 : BitVec 1 := Scalar.cmpi .slt v87 c0_i32_55
  let c0_i32_56 : BitVec 32 := 0#32
  let v90 : BitVec 1 := Scalar.cmpi .slt v86 c0_i32_56
  let v91 : BitVec 1 := Scalar.xori v89 v90
  let c0_i32_54 : BitVec 32 := 0#32
  let v88 : BitVec 1 := Scalar.cmpi .ne v87 c0_i32_54
  let v92 : BitVec 1 := Scalar.andi v91 v88
  let v93 : BitVec 32 := Scalar.addi v87 v86
  let v94 : BitVec 32 := Scalar.select v92 v93 v87
  let c1_i32_58 : BitVec 32 := 1#32
  let v95 : BitVec 32 := Scalar.muli v94 c1_i32_58
  let v96 : BitVec 32 := Scalar.addi c0_i32_59 v95
  v96.toNat
def k0_dev4 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_60 : BitVec 32 := 4#32
  let v97 : BitVec 32 := Scalar.addi v2 c4_i32_60
  let c8_i32_61 : BitVec 32 := 8#32
  let c0_i32_62 : BitVec 32 := 0#32
  let v98 : BitVec 1 := Scalar.cmpi .eq c8_i32_61 c0_i32_62
  let c1_i32_63 : BitVec 32 := 1#32
  let v99 : BitVec 32 := Scalar.select v98 c1_i32_63 c8_i32_61
  let v100 : BitVec 32 := Scalar.remsi v97 v99
  let c0_i32_65 : BitVec 32 := 0#32
  let v102 : BitVec 1 := Scalar.cmpi .slt v100 c0_i32_65
  let c0_i32_66 : BitVec 32 := 0#32
  let v103 : BitVec 1 := Scalar.cmpi .slt v99 c0_i32_66
  let v104 : BitVec 1 := Scalar.xori v102 v103
  let c0_i32_64 : BitVec 32 := 0#32
  let v101 : BitVec 1 := Scalar.cmpi .ne v100 c0_i32_64
  let v105 : BitVec 1 := Scalar.andi v104 v101
  let v106 : BitVec 32 := Scalar.addi v100 v99
  let v107 : BitVec 32 := Scalar.select v105 v106 v100
  let c1_i32_68 : BitVec 32 := 1#32
  let v108 : BitVec 32 := Scalar.muli v107 c1_i32_68
  let v109 : BitVec 32 := Scalar.addi c0_i32_69 v108
  v109.toNat
def k0_dev5 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v110 : BitVec 32 := Scalar.addi v2 c5_i32
  let c8_i32_70 : BitVec 32 := 8#32
  let c0_i32_71 : BitVec 32 := 0#32
  let v111 : BitVec 1 := Scalar.cmpi .eq c8_i32_70 c0_i32_71
  let c1_i32_72 : BitVec 32 := 1#32
  let v112 : BitVec 32 := Scalar.select v111 c1_i32_72 c8_i32_70
  let v113 : BitVec 32 := Scalar.remsi v110 v112
  let c0_i32_74 : BitVec 32 := 0#32
  let v115 : BitVec 1 := Scalar.cmpi .slt v113 c0_i32_74
  let c0_i32_75 : BitVec 32 := 0#32
  let v116 : BitVec 1 := Scalar.cmpi .slt v112 c0_i32_75
  let v117 : BitVec 1 := Scalar.xori v115 v116
  let c0_i32_73 : BitVec 32 := 0#32
  let v114 : BitVec 1 := Scalar.cmpi .ne v113 c0_i32_73
  let v118 : BitVec 1 := Scalar.andi v117 v114
  let v119 : BitVec 32 := Scalar.addi v113 v112
  let v120 : BitVec 32 := Scalar.select v118 v119 v113
  let c1_i32_77 : BitVec 32 := 1#32
  let v121 : BitVec 32 := Scalar.muli v120 c1_i32_77
  let v122 : BitVec 32 := Scalar.addi c0_i32_78 v121
  v122.toNat
def k0_dev6 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v123 : BitVec 32 := Scalar.addi v2 c6_i32
  let c8_i32_79 : BitVec 32 := 8#32
  let c0_i32_80 : BitVec 32 := 0#32
  let v124 : BitVec 1 := Scalar.cmpi .eq c8_i32_79 c0_i32_80
  let c1_i32_81 : BitVec 32 := 1#32
  let v125 : BitVec 32 := Scalar.select v124 c1_i32_81 c8_i32_79
  let v126 : BitVec 32 := Scalar.remsi v123 v125
  let c0_i32_83 : BitVec 32 := 0#32
  let v128 : BitVec 1 := Scalar.cmpi .slt v126 c0_i32_83
  let c0_i32_84 : BitVec 32 := 0#32
  let v129 : BitVec 1 := Scalar.cmpi .slt v125 c0_i32_84
  let v130 : BitVec 1 := Scalar.xori v128 v129
  let c0_i32_82 : BitVec 32 := 0#32
  let v127 : BitVec 1 := Scalar.cmpi .ne v126 c0_i32_82
  let v131 : BitVec 1 := Scalar.andi v130 v127
  let v132 : BitVec 32 := Scalar.addi v126 v125
  let v133 : BitVec 32 := Scalar.select v131 v132 v126
  let c1_i32_86 : BitVec 32 := 1#32
  let v134 : BitVec 32 := Scalar.muli v133 c1_i32_86
  let v135 : BitVec 32 := Scalar.addi c0_i32_87 v134
  v135.toNat
def k0_dev7 (d0 : Dev nD) : Nat :=
  let c0_i32_96 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v136 : BitVec 32 := Scalar.addi v2 c7_i32
  let c8_i32_88 : BitVec 32 := 8#32
  let c0_i32_89 : BitVec 32 := 0#32
  let v137 : BitVec 1 := Scalar.cmpi .eq c8_i32_88 c0_i32_89
  let c1_i32_90 : BitVec 32 := 1#32
  let v138 : BitVec 32 := Scalar.select v137 c1_i32_90 c8_i32_88
  let v139 : BitVec 32 := Scalar.remsi v136 v138
  let c0_i32_92 : BitVec 32 := 0#32
  let v141 : BitVec 1 := Scalar.cmpi .slt v139 c0_i32_92
  let c0_i32_93 : BitVec 32 := 0#32
  let v142 : BitVec 1 := Scalar.cmpi .slt v138 c0_i32_93
  let v143 : BitVec 1 := Scalar.xori v141 v142
  let c0_i32_91 : BitVec 32 := 0#32
  let v140 : BitVec 1 := Scalar.cmpi .ne v139 c0_i32_91
  let v144 : BitVec 1 := Scalar.andi v143 v140
  let v145 : BitVec 32 := Scalar.addi v139 v138
  let v146 : BitVec 32 := Scalar.select v144 v145 v139
  let c1_i32_95 : BitVec 32 := 1#32
  let v147 : BitVec 32 := Scalar.muli v146 c1_i32_95
  let v148 : BitVec 32 := Scalar.addi c0_i32_96 v147
  v148.toNat
def k0_dev8 (d0 : Dev nD) : Nat :=
  let c0_i32_208 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_175 : BitVec 32 := 0#32
  let v267 : BitVec 1 := Scalar.cmpi .sgt v2 c0_i32_175
  let v268 : BitVec 32 := Scalar.extui v267
  let c0_i32_176 : BitVec 32 := 0#32
  let v269 : BitVec 1 := Scalar.cmpi .slt v2 c0_i32_176
  let v270 : BitVec 32 := Scalar.extui v269
  let v271 : BitVec 32 := Scalar.subi v268 v270
  let c4_i32_174 : BitVec 32 := 4#32
  let c0_i32_177 : BitVec 32 := 0#32
  let v272 : BitVec 1 := Scalar.cmpi .sgt c4_i32_174 c0_i32_177
  let v273 : BitVec 32 := Scalar.extui v272
  let c0_i32_178 : BitVec 32 := 0#32
  let v274 : BitVec 1 := Scalar.cmpi .slt c4_i32_174 c0_i32_178
  let v275 : BitVec 32 := Scalar.extui v274
  let v276 : BitVec 32 := Scalar.subi v273 v275
  let v277 : BitVec 1 := Scalar.cmpi .ne v271 v276
  let v278 : BitVec 32 := Scalar.remsi v2 c4_i32_174
  let c0_i32_179 : BitVec 32 := 0#32
  let v279 : BitVec 1 := Scalar.cmpi .ne v278 c0_i32_179
  let v280 : BitVec 1 := Scalar.andi v277 v279
  let v266 : BitVec 32 := Scalar.divsi v2 c4_i32_174
  let c1_i32_180 : BitVec 32 := 1#32
  let v281 : BitVec 32 := Scalar.subi v266 c1_i32_180
  let v282 : BitVec 32 := Scalar.select v280 v281 v266
  let c0_i32_196 : BitVec 32 := 0#32
  let v301 : BitVec 32 := Scalar.xori v282 c0_i32_196
  let c4_i32_201 : BitVec 32 := 4#32
  let v311 : BitVec 32 := Scalar.muli v301 c4_i32_201
  let c4_i32_181 : BitVec 32 := 4#32
  let c0_i32_182 : BitVec 32 := 0#32
  let v283 : BitVec 1 := Scalar.cmpi .eq c4_i32_181 c0_i32_182
  let c1_i32_183 : BitVec 32 := 1#32
  let v284 : BitVec 32 := Scalar.select v283 c1_i32_183 c4_i32_181
  let v285 : BitVec 32 := Scalar.remsi v2 v284
  let c0_i32_185 : BitVec 32 := 0#32
  let v287 : BitVec 1 := Scalar.cmpi .slt v285 c0_i32_185
  let c0_i32_186 : BitVec 32 := 0#32
  let v288 : BitVec 1 := Scalar.cmpi .slt v284 c0_i32_186
  let v289 : BitVec 1 := Scalar.xori v287 v288
  let c0_i32_184 : BitVec 32 := 0#32
  let v286 : BitVec 1 := Scalar.cmpi .ne v285 c0_i32_184
  let v290 : BitVec 1 := Scalar.andi v289 v286
  let v291 : BitVec 32 := Scalar.addi v285 v284
  let v292 : BitVec 32 := Scalar.select v290 v291 v285
  let c1_i32_187 : BitVec 32 := 1#32
  let v293 : BitVec 1 := Scalar.cmpi .eq v292 c1_i32_187
  let c2_i32_188 : BitVec 32 := 2#32
  let v294 : BitVec 1 := Scalar.cmpi .eq v292 c2_i32_188
  let v295 : BitVec 1 := Scalar.ori v293 v294
  let c1_i32_189 : BitVec 32 := 1#32
  let c0_i32_190 : BitVec 32 := 0#32
  let v296 : BitVec 32 := Scalar.select v295 c1_i32_189 c0_i32_190
  let c1_i32_194 : BitVec 32 := 1#32
  let v299 : BitVec 32 := Scalar.xori v296 c1_i32_194
  let c1_i32_197 : BitVec 32 := 1#32
  let c2_i32_191 : BitVec 32 := 2#32
  let v297 : BitVec 1 := Scalar.cmpi .sge v292 c2_i32_191
  let c1_i32_192 : BitVec 32 := 1#32
  let c0_i32_193 : BitVec 32 := 0#32
  let v298 : BitVec 32 := Scalar.select v297 c1_i32_192 c0_i32_193
  let c0_i32_195 : BitVec 32 := 0#32
  let v300 : BitVec 32 := Scalar.xori v298 c0_i32_195
  let v302 : BitVec 32 := Scalar.subi c1_i32_197 v300
  let v303 : BitVec 32 := Scalar.muli v299 v302
  let c2_i32_198 : BitVec 32 := 2#32
  let v304 : BitVec 32 := Scalar.muli c2_i32_198 v299
  let v305 : BitVec 32 := Scalar.muli v304 v300
  let v306 : BitVec 32 := Scalar.addi v303 v305
  let c3_i32_200 : BitVec 32 := 3#32
  let c1_i32_199 : BitVec 32 := 1#32
  let v307 : BitVec 32 := Scalar.subi c1_i32_199 v299
  let v308 : BitVec 32 := Scalar.muli c3_i32_200 v307
  let v309 : BitVec 32 := Scalar.muli v308 v300
  let v310 : BitVec 32 := Scalar.addi v306 v309
  let v312 : BitVec 32 := Scalar.addi v311 v310
  let c1_i32_207 : BitVec 32 := 1#32
  let v313 : BitVec 32 := Scalar.muli v312 c1_i32_207
  let v314 : BitVec 32 := Scalar.addi c0_i32_208 v313
  v314.toNat
def k0_dev9 (d0 : Dev nD) : Nat :=
  let c0_i32_325 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_292 : BitVec 32 := 0#32
  let v441 : BitVec 1 := Scalar.cmpi .sgt v2 c0_i32_292
  let v442 : BitVec 32 := Scalar.extui v441
  let c0_i32_293 : BitVec 32 := 0#32
  let v443 : BitVec 1 := Scalar.cmpi .slt v2 c0_i32_293
  let v444 : BitVec 32 := Scalar.extui v443
  let v445 : BitVec 32 := Scalar.subi v442 v444
  let c4_i32_291 : BitVec 32 := 4#32
  let c0_i32_294 : BitVec 32 := 0#32
  let v446 : BitVec 1 := Scalar.cmpi .sgt c4_i32_291 c0_i32_294
  let v447 : BitVec 32 := Scalar.extui v446
  let c0_i32_295 : BitVec 32 := 0#32
  let v448 : BitVec 1 := Scalar.cmpi .slt c4_i32_291 c0_i32_295
  let v449 : BitVec 32 := Scalar.extui v448
  let v450 : BitVec 32 := Scalar.subi v447 v449
  let v451 : BitVec 1 := Scalar.cmpi .ne v445 v450
  let v452 : BitVec 32 := Scalar.remsi v2 c4_i32_291
  let c0_i32_296 : BitVec 32 := 0#32
  let v453 : BitVec 1 := Scalar.cmpi .ne v452 c0_i32_296
  let v454 : BitVec 1 := Scalar.andi v451 v453
  let v440 : BitVec 32 := Scalar.divsi v2 c4_i32_291
  let c1_i32_297 : BitVec 32 := 1#32
  let v455 : BitVec 32 := Scalar.subi v440 c1_i32_297
  let v456 : BitVec 32 := Scalar.select v454 v455 v440
  let c0_i32_313 : BitVec 32 := 0#32
  let v475 : BitVec 32 := Scalar.xori v456 c0_i32_313
  let c4_i32_318 : BitVec 32 := 4#32
  let v485 : BitVec 32 := Scalar.muli v475 c4_i32_318
  let c4_i32_298 : BitVec 32 := 4#32
  let c0_i32_299 : BitVec 32 := 0#32
  let v457 : BitVec 1 := Scalar.cmpi .eq c4_i32_298 c0_i32_299
  let c1_i32_300 : BitVec 32 := 1#32
  let v458 : BitVec 32 := Scalar.select v457 c1_i32_300 c4_i32_298
  let v459 : BitVec 32 := Scalar.remsi v2 v458
  let c0_i32_302 : BitVec 32 := 0#32
  let v461 : BitVec 1 := Scalar.cmpi .slt v459 c0_i32_302
  let c0_i32_303 : BitVec 32 := 0#32
  let v462 : BitVec 1 := Scalar.cmpi .slt v458 c0_i32_303
  let v463 : BitVec 1 := Scalar.xori v461 v462
  let c0_i32_301 : BitVec 32 := 0#32
  let v460 : BitVec 1 := Scalar.cmpi .ne v459 c0_i32_301
  let v464 : BitVec 1 := Scalar.andi v463 v460
  let v465 : BitVec 32 := Scalar.addi v459 v458
  let v466 : BitVec 32 := Scalar.select v464 v465 v459
  let c1_i32_304 : BitVec 32 := 1#32
  let v467 : BitVec 1 := Scalar.cmpi .eq v466 c1_i32_304
  let c2_i32_305 : BitVec 32 := 2#32
  let v468 : BitVec 1 := Scalar.cmpi .eq v466 c2_i32_305
  let v469 : BitVec 1 := Scalar.ori v467 v468
  let c1_i32_306 : BitVec 32 := 1#32
  let c0_i32_307 : BitVec 32 := 0#32
  let v470 : BitVec 32 := Scalar.select v469 c1_i32_306 c0_i32_307
  let c1_i32_311 : BitVec 32 := 1#32
  let v473 : BitVec 32 := Scalar.xori v470 c1_i32_311
  let c1_i32_314 : BitVec 32 := 1#32
  let c2_i32_308 : BitVec 32 := 2#32
  let v471 : BitVec 1 := Scalar.cmpi .sge v466 c2_i32_308
  let c1_i32_309 : BitVec 32 := 1#32
  let c0_i32_310 : BitVec 32 := 0#32
  let v472 : BitVec 32 := Scalar.select v471 c1_i32_309 c0_i32_310
  let c0_i32_312 : BitVec 32 := 0#32
  let v474 : BitVec 32 := Scalar.xori v472 c0_i32_312
  let v476 : BitVec 32 := Scalar.subi c1_i32_314 v474
  let v477 : BitVec 32 := Scalar.muli v473 v476
  let c2_i32_315 : BitVec 32 := 2#32
  let v478 : BitVec 32 := Scalar.muli c2_i32_315 v473
  let v479 : BitVec 32 := Scalar.muli v478 v474
  let v480 : BitVec 32 := Scalar.addi v477 v479
  let c3_i32_317 : BitVec 32 := 3#32
  let c1_i32_316 : BitVec 32 := 1#32
  let v481 : BitVec 32 := Scalar.subi c1_i32_316 v473
  let v482 : BitVec 32 := Scalar.muli c3_i32_317 v481
  let v483 : BitVec 32 := Scalar.muli v482 v474
  let v484 : BitVec 32 := Scalar.addi v480 v483
  let v486 : BitVec 32 := Scalar.addi v485 v484
  let c1_i32_324 : BitVec 32 := 1#32
  let v487 : BitVec 32 := Scalar.muli v486 c1_i32_324
  let v488 : BitVec 32 := Scalar.addi c0_i32_325 v487
  v488.toNat
def k0_dev10 (d0 : Dev nD) : Nat :=
  let c0_i32_442 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_409 : BitVec 32 := 0#32
  let v615 : BitVec 1 := Scalar.cmpi .sgt v2 c0_i32_409
  let v616 : BitVec 32 := Scalar.extui v615
  let c0_i32_410 : BitVec 32 := 0#32
  let v617 : BitVec 1 := Scalar.cmpi .slt v2 c0_i32_410
  let v618 : BitVec 32 := Scalar.extui v617
  let v619 : BitVec 32 := Scalar.subi v616 v618
  let c4_i32_408 : BitVec 32 := 4#32
  let c0_i32_411 : BitVec 32 := 0#32
  let v620 : BitVec 1 := Scalar.cmpi .sgt c4_i32_408 c0_i32_411
  let v621 : BitVec 32 := Scalar.extui v620
  let c0_i32_412 : BitVec 32 := 0#32
  let v622 : BitVec 1 := Scalar.cmpi .slt c4_i32_408 c0_i32_412
  let v623 : BitVec 32 := Scalar.extui v622
  let v624 : BitVec 32 := Scalar.subi v621 v623
  let v625 : BitVec 1 := Scalar.cmpi .ne v619 v624
  let v626 : BitVec 32 := Scalar.remsi v2 c4_i32_408
  let c0_i32_413 : BitVec 32 := 0#32
  let v627 : BitVec 1 := Scalar.cmpi .ne v626 c0_i32_413
  let v628 : BitVec 1 := Scalar.andi v625 v627
  let v614 : BitVec 32 := Scalar.divsi v2 c4_i32_408
  let c1_i32_414 : BitVec 32 := 1#32
  let v629 : BitVec 32 := Scalar.subi v614 c1_i32_414
  let v630 : BitVec 32 := Scalar.select v628 v629 v614
  let c0_i32_430 : BitVec 32 := 0#32
  let v649 : BitVec 32 := Scalar.xori v630 c0_i32_430
  let c4_i32_435 : BitVec 32 := 4#32
  let v659 : BitVec 32 := Scalar.muli v649 c4_i32_435
  let c4_i32_415 : BitVec 32 := 4#32
  let c0_i32_416 : BitVec 32 := 0#32
  let v631 : BitVec 1 := Scalar.cmpi .eq c4_i32_415 c0_i32_416
  let c1_i32_417 : BitVec 32 := 1#32
  let v632 : BitVec 32 := Scalar.select v631 c1_i32_417 c4_i32_415
  let v633 : BitVec 32 := Scalar.remsi v2 v632
  let c0_i32_419 : BitVec 32 := 0#32
  let v635 : BitVec 1 := Scalar.cmpi .slt v633 c0_i32_419
  let c0_i32_420 : BitVec 32 := 0#32
  let v636 : BitVec 1 := Scalar.cmpi .slt v632 c0_i32_420
  let v637 : BitVec 1 := Scalar.xori v635 v636
  let c0_i32_418 : BitVec 32 := 0#32
  let v634 : BitVec 1 := Scalar.cmpi .ne v633 c0_i32_418
  let v638 : BitVec 1 := Scalar.andi v637 v634
  let v639 : BitVec 32 := Scalar.addi v633 v632
  let v640 : BitVec 32 := Scalar.select v638 v639 v633
  let c1_i32_421 : BitVec 32 := 1#32
  let v641 : BitVec 1 := Scalar.cmpi .eq v640 c1_i32_421
  let c2_i32_422 : BitVec 32 := 2#32
  let v642 : BitVec 1 := Scalar.cmpi .eq v640 c2_i32_422
  let v643 : BitVec 1 := Scalar.ori v641 v642
  let c1_i32_423 : BitVec 32 := 1#32
  let c0_i32_424 : BitVec 32 := 0#32
  let v644 : BitVec 32 := Scalar.select v643 c1_i32_423 c0_i32_424
  let c0_i32_428 : BitVec 32 := 0#32
  let v647 : BitVec 32 := Scalar.xori v644 c0_i32_428
  let c1_i32_431 : BitVec 32 := 1#32
  let c2_i32_425 : BitVec 32 := 2#32
  let v645 : BitVec 1 := Scalar.cmpi .sge v640 c2_i32_425
  let c1_i32_426 : BitVec 32 := 1#32
  let c0_i32_427 : BitVec 32 := 0#32
  let v646 : BitVec 32 := Scalar.select v645 c1_i32_426 c0_i32_427
  let c1_i32_429 : BitVec 32 := 1#32
  let v648 : BitVec 32 := Scalar.xori v646 c1_i32_429
  let v650 : BitVec 32 := Scalar.subi c1_i32_431 v648
  let v651 : BitVec 32 := Scalar.muli v647 v650
  let c2_i32_432 : BitVec 32 := 2#32
  let v652 : BitVec 32 := Scalar.muli c2_i32_432 v647
  let v653 : BitVec 32 := Scalar.muli v652 v648
  let v654 : BitVec 32 := Scalar.addi v651 v653
  let c3_i32_434 : BitVec 32 := 3#32
  let c1_i32_433 : BitVec 32 := 1#32
  let v655 : BitVec 32 := Scalar.subi c1_i32_433 v647
  let v656 : BitVec 32 := Scalar.muli c3_i32_434 v655
  let v657 : BitVec 32 := Scalar.muli v656 v648
  let v658 : BitVec 32 := Scalar.addi v654 v657
  let v660 : BitVec 32 := Scalar.addi v659 v658
  let c1_i32_441 : BitVec 32 := 1#32
  let v661 : BitVec 32 := Scalar.muli v660 c1_i32_441
  let v662 : BitVec 32 := Scalar.addi c0_i32_442 v661
  v662.toNat
def k0_dev11 (d0 : Dev nD) : Nat :=
  let c0_i32_559 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_526 : BitVec 32 := 0#32
  let v789 : BitVec 1 := Scalar.cmpi .sgt v2 c0_i32_526
  let v790 : BitVec 32 := Scalar.extui v789
  let c0_i32_527 : BitVec 32 := 0#32
  let v791 : BitVec 1 := Scalar.cmpi .slt v2 c0_i32_527
  let v792 : BitVec 32 := Scalar.extui v791
  let v793 : BitVec 32 := Scalar.subi v790 v792
  let c4_i32_525 : BitVec 32 := 4#32
  let c0_i32_528 : BitVec 32 := 0#32
  let v794 : BitVec 1 := Scalar.cmpi .sgt c4_i32_525 c0_i32_528
  let v795 : BitVec 32 := Scalar.extui v794
  let c0_i32_529 : BitVec 32 := 0#32
  let v796 : BitVec 1 := Scalar.cmpi .slt c4_i32_525 c0_i32_529
  let v797 : BitVec 32 := Scalar.extui v796
  let v798 : BitVec 32 := Scalar.subi v795 v797
  let v799 : BitVec 1 := Scalar.cmpi .ne v793 v798
  let v800 : BitVec 32 := Scalar.remsi v2 c4_i32_525
  let c0_i32_530 : BitVec 32 := 0#32
  let v801 : BitVec 1 := Scalar.cmpi .ne v800 c0_i32_530
  let v802 : BitVec 1 := Scalar.andi v799 v801
  let v788 : BitVec 32 := Scalar.divsi v2 c4_i32_525
  let c1_i32_531 : BitVec 32 := 1#32
  let v803 : BitVec 32 := Scalar.subi v788 c1_i32_531
  let v804 : BitVec 32 := Scalar.select v802 v803 v788
  let c0_i32_547 : BitVec 32 := 0#32
  let v823 : BitVec 32 := Scalar.xori v804 c0_i32_547
  let c4_i32_552 : BitVec 32 := 4#32
  let v833 : BitVec 32 := Scalar.muli v823 c4_i32_552
  let c4_i32_532 : BitVec 32 := 4#32
  let c0_i32_533 : BitVec 32 := 0#32
  let v805 : BitVec 1 := Scalar.cmpi .eq c4_i32_532 c0_i32_533
  let c1_i32_534 : BitVec 32 := 1#32
  let v806 : BitVec 32 := Scalar.select v805 c1_i32_534 c4_i32_532
  let v807 : BitVec 32 := Scalar.remsi v2 v806
  let c0_i32_536 : BitVec 32 := 0#32
  let v809 : BitVec 1 := Scalar.cmpi .slt v807 c0_i32_536
  let c0_i32_537 : BitVec 32 := 0#32
  let v810 : BitVec 1 := Scalar.cmpi .slt v806 c0_i32_537
  let v811 : BitVec 1 := Scalar.xori v809 v810
  let c0_i32_535 : BitVec 32 := 0#32
  let v808 : BitVec 1 := Scalar.cmpi .ne v807 c0_i32_535
  let v812 : BitVec 1 := Scalar.andi v811 v808
  let v813 : BitVec 32 := Scalar.addi v807 v806
  let v814 : BitVec 32 := Scalar.select v812 v813 v807
  let c1_i32_538 : BitVec 32 := 1#32
  let v815 : BitVec 1 := Scalar.cmpi .eq v814 c1_i32_538
  let c2_i32_539 : BitVec 32 := 2#32
  let v816 : BitVec 1 := Scalar.cmpi .eq v814 c2_i32_539
  let v817 : BitVec 1 := Scalar.ori v815 v816
  let c1_i32_540 : BitVec 32 := 1#32
  let c0_i32_541 : BitVec 32 := 0#32
  let v818 : BitVec 32 := Scalar.select v817 c1_i32_540 c0_i32_541
  let c0_i32_545 : BitVec 32 := 0#32
  let v821 : BitVec 32 := Scalar.xori v818 c0_i32_545
  let c1_i32_548 : BitVec 32 := 1#32
  let c2_i32_542 : BitVec 32 := 2#32
  let v819 : BitVec 1 := Scalar.cmpi .sge v814 c2_i32_542
  let c1_i32_543 : BitVec 32 := 1#32
  let c0_i32_544 : BitVec 32 := 0#32
  let v820 : BitVec 32 := Scalar.select v819 c1_i32_543 c0_i32_544
  let c1_i32_546 : BitVec 32 := 1#32
  let v822 : BitVec 32 := Scalar.xori v820 c1_i32_546
  let v824 : BitVec 32 := Scalar.subi c1_i32_548 v822
  let v825 : BitVec 32 := Scalar.muli v821 v824
  let c2_i32_549 : BitVec 32 := 2#32
  let v826 : BitVec 32 := Scalar.muli c2_i32_549 v821
  let v827 : BitVec 32 := Scalar.muli v826 v822
  let v828 : BitVec 32 := Scalar.addi v825 v827
  let c3_i32_551 : BitVec 32 := 3#32
  let c1_i32_550 : BitVec 32 := 1#32
  let v829 : BitVec 32 := Scalar.subi c1_i32_550 v821
  let v830 : BitVec 32 := Scalar.muli c3_i32_551 v829
  let v831 : BitVec 32 := Scalar.muli v830 v822
  let v832 : BitVec 32 := Scalar.addi v828 v831
  let v834 : BitVec 32 := Scalar.addi v833 v832
  let c1_i32_558 : BitVec 32 := 1#32
  let v835 : BitVec 32 := Scalar.muli v834 c1_i32_558
  let v836 : BitVec 32 := Scalar.addi c0_i32_559 v835
  v836.toNat
def k0_dev12 (d0 : Dev nD) : Nat :=
  let c0_i32_676 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_643 : BitVec 32 := 0#32
  let v963 : BitVec 1 := Scalar.cmpi .sgt v2 c0_i32_643
  let v964 : BitVec 32 := Scalar.extui v963
  let c0_i32_644 : BitVec 32 := 0#32
  let v965 : BitVec 1 := Scalar.cmpi .slt v2 c0_i32_644
  let v966 : BitVec 32 := Scalar.extui v965
  let v967 : BitVec 32 := Scalar.subi v964 v966
  let c4_i32_642 : BitVec 32 := 4#32
  let c0_i32_645 : BitVec 32 := 0#32
  let v968 : BitVec 1 := Scalar.cmpi .sgt c4_i32_642 c0_i32_645
  let v969 : BitVec 32 := Scalar.extui v968
  let c0_i32_646 : BitVec 32 := 0#32
  let v970 : BitVec 1 := Scalar.cmpi .slt c4_i32_642 c0_i32_646
  let v971 : BitVec 32 := Scalar.extui v970
  let v972 : BitVec 32 := Scalar.subi v969 v971
  let v973 : BitVec 1 := Scalar.cmpi .ne v967 v972
  let v974 : BitVec 32 := Scalar.remsi v2 c4_i32_642
  let c0_i32_647 : BitVec 32 := 0#32
  let v975 : BitVec 1 := Scalar.cmpi .ne v974 c0_i32_647
  let v976 : BitVec 1 := Scalar.andi v973 v975
  let v962 : BitVec 32 := Scalar.divsi v2 c4_i32_642
  let c1_i32_648 : BitVec 32 := 1#32
  let v977 : BitVec 32 := Scalar.subi v962 c1_i32_648
  let v978 : BitVec 32 := Scalar.select v976 v977 v962
  let c1_i32_664 : BitVec 32 := 1#32
  let v997 : BitVec 32 := Scalar.xori v978 c1_i32_664
  let c4_i32_669 : BitVec 32 := 4#32
  let v1007 : BitVec 32 := Scalar.muli v997 c4_i32_669
  let c4_i32_649 : BitVec 32 := 4#32
  let c0_i32_650 : BitVec 32 := 0#32
  let v979 : BitVec 1 := Scalar.cmpi .eq c4_i32_649 c0_i32_650
  let c1_i32_651 : BitVec 32 := 1#32
  let v980 : BitVec 32 := Scalar.select v979 c1_i32_651 c4_i32_649
  let v981 : BitVec 32 := Scalar.remsi v2 v980
  let c0_i32_653 : BitVec 32 := 0#32
  let v983 : BitVec 1 := Scalar.cmpi .slt v981 c0_i32_653
  let c0_i32_654 : BitVec 32 := 0#32
  let v984 : BitVec 1 := Scalar.cmpi .slt v980 c0_i32_654
  let v985 : BitVec 1 := Scalar.xori v983 v984
  let c0_i32_652 : BitVec 32 := 0#32
  let v982 : BitVec 1 := Scalar.cmpi .ne v981 c0_i32_652
  let v986 : BitVec 1 := Scalar.andi v985 v982
  let v987 : BitVec 32 := Scalar.addi v981 v980
  let v988 : BitVec 32 := Scalar.select v986 v987 v981
  let c1_i32_655 : BitVec 32 := 1#32
  let v989 : BitVec 1 := Scalar.cmpi .eq v988 c1_i32_655
  let c2_i32_656 : BitVec 32 := 2#32
  let v990 : BitVec 1 := Scalar.cmpi .eq v988 c2_i32_656
  let v991 : BitVec 1 := Scalar.ori v989 v990
  let c1_i32_657 : BitVec 32 := 1#32
  let c0_i32_658 : BitVec 32 := 0#32
  let v992 : BitVec 32 := Scalar.select v991 c1_i32_657 c0_i32_658
  let c0_i32_662 : BitVec 32 := 0#32
  let v995 : BitVec 32 := Scalar.xori v992 c0_i32_662
  let c1_i32_665 : BitVec 32 := 1#32
  let c2_i32_659 : BitVec 32 := 2#32
  let v993 : BitVec 1 := Scalar.cmpi .sge v988 c2_i32_659
  let c1_i32_660 : BitVec 32 := 1#32
  let c0_i32_661 : BitVec 32 := 0#32
  let v994 : BitVec 32 := Scalar.select v993 c1_i32_660 c0_i32_661
  let c0_i32_663 : BitVec 32 := 0#32
  let v996 : BitVec 32 := Scalar.xori v994 c0_i32_663
  let v998 : BitVec 32 := Scalar.subi c1_i32_665 v996
  let v999 : BitVec 32 := Scalar.muli v995 v998
  let c2_i32_666 : BitVec 32 := 2#32
  let v1000 : BitVec 32 := Scalar.muli c2_i32_666 v995
  let v1001 : BitVec 32 := Scalar.muli v1000 v996
  let v1002 : BitVec 32 := Scalar.addi v999 v1001
  let c3_i32_668 : BitVec 32 := 3#32
  let c1_i32_667 : BitVec 32 := 1#32
  let v1003 : BitVec 32 := Scalar.subi c1_i32_667 v995
  let v1004 : BitVec 32 := Scalar.muli c3_i32_668 v1003
  let v1005 : BitVec 32 := Scalar.muli v1004 v996
  let v1006 : BitVec 32 := Scalar.addi v1002 v1005
  let v1008 : BitVec 32 := Scalar.addi v1007 v1006
  let c1_i32_675 : BitVec 32 := 1#32
  let v1009 : BitVec 32 := Scalar.muli v1008 c1_i32_675
  let v1010 : BitVec 32 := Scalar.addi c0_i32_676 v1009
  v1010.toNat
def k0_off2 (d0 : Dev nD) (c0_i32_703 : BitVec 32) (c1_i32_701 : BitVec 32) (c0_i32_702 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_682 : BitVec 32 := 0#32
  let v1020 : BitVec 1 := Scalar.cmpi .sgt v2 c0_i32_682
  let v1021 : BitVec 32 := Scalar.extui v1020
  let c0_i32_683 : BitVec 32 := 0#32
  let v1022 : BitVec 1 := Scalar.cmpi .slt v2 c0_i32_683
  let v1023 : BitVec 32 := Scalar.extui v1022
  let v1024 : BitVec 32 := Scalar.subi v1021 v1023
  let c4_i32_681 : BitVec 32 := 4#32
  let c0_i32_684 : BitVec 32 := 0#32
  let v1025 : BitVec 1 := Scalar.cmpi .sgt c4_i32_681 c0_i32_684
  let v1026 : BitVec 32 := Scalar.extui v1025
  let c0_i32_685 : BitVec 32 := 0#32
  let v1027 : BitVec 1 := Scalar.cmpi .slt c4_i32_681 c0_i32_685
  let v1028 : BitVec 32 := Scalar.extui v1027
  let v1029 : BitVec 32 := Scalar.subi v1026 v1028
  let v1030 : BitVec 1 := Scalar.cmpi .ne v1024 v1029
  let v1031 : BitVec 32 := Scalar.remsi v2 c4_i32_681
  let c0_i32_686 : BitVec 32 := 0#32
  let v1032 : BitVec 1 := Scalar.cmpi .ne v1031 c0_i32_686
  let v1033 : BitVec 1 := Scalar.andi v1030 v1032
  let v1019 : BitVec 32 := Scalar.divsi v2 c4_i32_681
  let c1_i32_687 : BitVec 32 := 1#32
  let v1034 : BitVec 32 := Scalar.subi v1019 c1_i32_687
  let v1035 : BitVec 32 := Scalar.select v1033 v1034 v1019
  let v1054 : BitVec 32 := Scalar.xori v1035 c0_i32_703
  let c4_i32_708 : BitVec 32 := 4#32
  let v1064 : BitVec 32 := Scalar.muli v1054 c4_i32_708
  let c4_i32_688 : BitVec 32 := 4#32
  let c0_i32_689 : BitVec 32 := 0#32
  let v1036 : BitVec 1 := Scalar.cmpi .eq c4_i32_688 c0_i32_689
  let c1_i32_690 : BitVec 32 := 1#32
  let v1037 : BitVec 32 := Scalar.select v1036 c1_i32_690 c4_i32_688
  let v1038 : BitVec 32 := Scalar.remsi v2 v1037
  let c0_i32_692 : BitVec 32 := 0#32
  let v1040 : BitVec 1 := Scalar.cmpi .slt v1038 c0_i32_692
  let c0_i32_693 : BitVec 32 := 0#32
  let v1041 : BitVec 1 := Scalar.cmpi .slt v1037 c0_i32_693
  let v1042 : BitVec 1 := Scalar.xori v1040 v1041
  let c0_i32_691 : BitVec 32 := 0#32
  let v1039 : BitVec 1 := Scalar.cmpi .ne v1038 c0_i32_691
  let v1043 : BitVec 1 := Scalar.andi v1042 v1039
  let v1044 : BitVec 32 := Scalar.addi v1038 v1037
  let v1045 : BitVec 32 := Scalar.select v1043 v1044 v1038
  let c1_i32_694 : BitVec 32 := 1#32
  let v1046 : BitVec 1 := Scalar.cmpi .eq v1045 c1_i32_694
  let c2_i32_695 : BitVec 32 := 2#32
  let v1047 : BitVec 1 := Scalar.cmpi .eq v1045 c2_i32_695
  let v1048 : BitVec 1 := Scalar.ori v1046 v1047
  let c1_i32_696 : BitVec 32 := 1#32
  let c0_i32_697 : BitVec 32 := 0#32
  let v1049 : BitVec 32 := Scalar.select v1048 c1_i32_696 c0_i32_697
  let v1052 : BitVec 32 := Scalar.xori v1049 c1_i32_701
  let c1_i32_704 : BitVec 32 := 1#32
  let c2_i32_698 : BitVec 32 := 2#32
  let v1050 : BitVec 1 := Scalar.cmpi .sge v1045 c2_i32_698
  let c1_i32_699 : BitVec 32 := 1#32
  let c0_i32_700 : BitVec 32 := 0#32
  let v1051 : BitVec 32 := Scalar.select v1050 c1_i32_699 c0_i32_700
  let v1053 : BitVec 32 := Scalar.xori v1051 c0_i32_702
  let v1055 : BitVec 32 := Scalar.subi c1_i32_704 v1053
  let v1056 : BitVec 32 := Scalar.muli v1052 v1055
  let c2_i32_705 : BitVec 32 := 2#32
  let v1057 : BitVec 32 := Scalar.muli c2_i32_705 v1052
  let v1058 : BitVec 32 := Scalar.muli v1057 v1053
  let v1059 : BitVec 32 := Scalar.addi v1056 v1058
  let c3_i32_707 : BitVec 32 := 3#32
  let c1_i32_706 : BitVec 32 := 1#32
  let v1060 : BitVec 32 := Scalar.subi c1_i32_706 v1052
  let v1061 : BitVec 32 := Scalar.muli c3_i32_707 v1060
  let v1062 : BitVec 32 := Scalar.muli v1061 v1053
  let v1063 : BitVec 32 := Scalar.addi v1059 v1062
  let v1065 : BitVec 32 := Scalar.addi v1064 v1063
  let c512_i32_729 : BitVec 32 := 512#32
  let v1090 : BitVec 32 := Scalar.muli v1065 c512_i32_729
  let v1091 : Index := Scalar.indexCast v1090
  let c0_730 : Index := 0#32
  ![v1091.toNat, 0]
def k0_off2_at (r : Fin 7) : BitVec 32 × BitVec 32 × BitVec 32 :=
  if r.val < 3 then
    if r.val < 1 then
      (0#32, 1#32, 0#32)
    else
      if r.val < 2 then
        (0#32, 0#32, 1#32)
      else
        (1#32, 0#32, 0#32)
  else
    if r.val < 5 then
      if r.val < 4 then
        (0#32, 1#32, 1#32)
      else
        (1#32, 0#32, 1#32)
    else
      if r.val < 6 then
        (1#32, 1#32, 0#32)
      else
        (1#32, 1#32, 1#32)
def k0_dev13 (d0 : Dev nD) : Nat :=
  let c0_i32_843 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_810 : BitVec 32 := 0#32
  let v1211 : BitVec 1 := Scalar.cmpi .sgt v2 c0_i32_810
  let v1212 : BitVec 32 := Scalar.extui v1211
  let c0_i32_811 : BitVec 32 := 0#32
  let v1213 : BitVec 1 := Scalar.cmpi .slt v2 c0_i32_811
  let v1214 : BitVec 32 := Scalar.extui v1213
  let v1215 : BitVec 32 := Scalar.subi v1212 v1214
  let c4_i32_809 : BitVec 32 := 4#32
  let c0_i32_812 : BitVec 32 := 0#32
  let v1216 : BitVec 1 := Scalar.cmpi .sgt c4_i32_809 c0_i32_812
  let v1217 : BitVec 32 := Scalar.extui v1216
  let c0_i32_813 : BitVec 32 := 0#32
  let v1218 : BitVec 1 := Scalar.cmpi .slt c4_i32_809 c0_i32_813
  let v1219 : BitVec 32 := Scalar.extui v1218
  let v1220 : BitVec 32 := Scalar.subi v1217 v1219
  let v1221 : BitVec 1 := Scalar.cmpi .ne v1215 v1220
  let v1222 : BitVec 32 := Scalar.remsi v2 c4_i32_809
  let c0_i32_814 : BitVec 32 := 0#32
  let v1223 : BitVec 1 := Scalar.cmpi .ne v1222 c0_i32_814
  let v1224 : BitVec 1 := Scalar.andi v1221 v1223
  let v1210 : BitVec 32 := Scalar.divsi v2 c4_i32_809
  let c1_i32_815 : BitVec 32 := 1#32
  let v1225 : BitVec 32 := Scalar.subi v1210 c1_i32_815
  let v1226 : BitVec 32 := Scalar.select v1224 v1225 v1210
  let c1_i32_831 : BitVec 32 := 1#32
  let v1245 : BitVec 32 := Scalar.xori v1226 c1_i32_831
  let c4_i32_836 : BitVec 32 := 4#32
  let v1255 : BitVec 32 := Scalar.muli v1245 c4_i32_836
  let c4_i32_816 : BitVec 32 := 4#32
  let c0_i32_817 : BitVec 32 := 0#32
  let v1227 : BitVec 1 := Scalar.cmpi .eq c4_i32_816 c0_i32_817
  let c1_i32_818 : BitVec 32 := 1#32
  let v1228 : BitVec 32 := Scalar.select v1227 c1_i32_818 c4_i32_816
  let v1229 : BitVec 32 := Scalar.remsi v2 v1228
  let c0_i32_820 : BitVec 32 := 0#32
  let v1231 : BitVec 1 := Scalar.cmpi .slt v1229 c0_i32_820
  let c0_i32_821 : BitVec 32 := 0#32
  let v1232 : BitVec 1 := Scalar.cmpi .slt v1228 c0_i32_821
  let v1233 : BitVec 1 := Scalar.xori v1231 v1232
  let c0_i32_819 : BitVec 32 := 0#32
  let v1230 : BitVec 1 := Scalar.cmpi .ne v1229 c0_i32_819
  let v1234 : BitVec 1 := Scalar.andi v1233 v1230
  let v1235 : BitVec 32 := Scalar.addi v1229 v1228
  let v1236 : BitVec 32 := Scalar.select v1234 v1235 v1229
  let c1_i32_822 : BitVec 32 := 1#32
  let v1237 : BitVec 1 := Scalar.cmpi .eq v1236 c1_i32_822
  let c2_i32_823 : BitVec 32 := 2#32
  let v1238 : BitVec 1 := Scalar.cmpi .eq v1236 c2_i32_823
  let v1239 : BitVec 1 := Scalar.ori v1237 v1238
  let c1_i32_824 : BitVec 32 := 1#32
  let c0_i32_825 : BitVec 32 := 0#32
  let v1240 : BitVec 32 := Scalar.select v1239 c1_i32_824 c0_i32_825
  let c0_i32_829 : BitVec 32 := 0#32
  let v1243 : BitVec 32 := Scalar.xori v1240 c0_i32_829
  let c1_i32_832 : BitVec 32 := 1#32
  let c2_i32_826 : BitVec 32 := 2#32
  let v1241 : BitVec 1 := Scalar.cmpi .sge v1236 c2_i32_826
  let c1_i32_827 : BitVec 32 := 1#32
  let c0_i32_828 : BitVec 32 := 0#32
  let v1242 : BitVec 32 := Scalar.select v1241 c1_i32_827 c0_i32_828
  let c0_i32_830 : BitVec 32 := 0#32
  let v1244 : BitVec 32 := Scalar.xori v1242 c0_i32_830
  let v1246 : BitVec 32 := Scalar.subi c1_i32_832 v1244
  let v1247 : BitVec 32 := Scalar.muli v1243 v1246
  let c2_i32_833 : BitVec 32 := 2#32
  let v1248 : BitVec 32 := Scalar.muli c2_i32_833 v1243
  let v1249 : BitVec 32 := Scalar.muli v1248 v1244
  let v1250 : BitVec 32 := Scalar.addi v1247 v1249
  let c3_i32_835 : BitVec 32 := 3#32
  let c1_i32_834 : BitVec 32 := 1#32
  let v1251 : BitVec 32 := Scalar.subi c1_i32_834 v1243
  let v1252 : BitVec 32 := Scalar.muli c3_i32_835 v1251
  let v1253 : BitVec 32 := Scalar.muli v1252 v1244
  let v1254 : BitVec 32 := Scalar.addi v1250 v1253
  let v1256 : BitVec 32 := Scalar.addi v1255 v1254
  let c1_i32_842 : BitVec 32 := 1#32
  let v1257 : BitVec 32 := Scalar.muli v1256 c1_i32_842
  let v1258 : BitVec 32 := Scalar.addi c0_i32_843 v1257
  v1258.toNat
def k0_off3 (d0 : Dev nD) (c0_i32_870 : BitVec 32) (c1_i32_868 : BitVec 32) (c0_i32_869 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_849 : BitVec 32 := 0#32
  let v1268 : BitVec 1 := Scalar.cmpi .sgt v2 c0_i32_849
  let v1269 : BitVec 32 := Scalar.extui v1268
  let c0_i32_850 : BitVec 32 := 0#32
  let v1270 : BitVec 1 := Scalar.cmpi .slt v2 c0_i32_850
  let v1271 : BitVec 32 := Scalar.extui v1270
  let v1272 : BitVec 32 := Scalar.subi v1269 v1271
  let c4_i32_848 : BitVec 32 := 4#32
  let c0_i32_851 : BitVec 32 := 0#32
  let v1273 : BitVec 1 := Scalar.cmpi .sgt c4_i32_848 c0_i32_851
  let v1274 : BitVec 32 := Scalar.extui v1273
  let c0_i32_852 : BitVec 32 := 0#32
  let v1275 : BitVec 1 := Scalar.cmpi .slt c4_i32_848 c0_i32_852
  let v1276 : BitVec 32 := Scalar.extui v1275
  let v1277 : BitVec 32 := Scalar.subi v1274 v1276
  let v1278 : BitVec 1 := Scalar.cmpi .ne v1272 v1277
  let v1279 : BitVec 32 := Scalar.remsi v2 c4_i32_848
  let c0_i32_853 : BitVec 32 := 0#32
  let v1280 : BitVec 1 := Scalar.cmpi .ne v1279 c0_i32_853
  let v1281 : BitVec 1 := Scalar.andi v1278 v1280
  let v1267 : BitVec 32 := Scalar.divsi v2 c4_i32_848
  let c1_i32_854 : BitVec 32 := 1#32
  let v1282 : BitVec 32 := Scalar.subi v1267 c1_i32_854
  let v1283 : BitVec 32 := Scalar.select v1281 v1282 v1267
  let v1302 : BitVec 32 := Scalar.xori v1283 c0_i32_870
  let c4_i32_875 : BitVec 32 := 4#32
  let v1312 : BitVec 32 := Scalar.muli v1302 c4_i32_875
  let c4_i32_855 : BitVec 32 := 4#32
  let c0_i32_856 : BitVec 32 := 0#32
  let v1284 : BitVec 1 := Scalar.cmpi .eq c4_i32_855 c0_i32_856
  let c1_i32_857 : BitVec 32 := 1#32
  let v1285 : BitVec 32 := Scalar.select v1284 c1_i32_857 c4_i32_855
  let v1286 : BitVec 32 := Scalar.remsi v2 v1285
  let c0_i32_859 : BitVec 32 := 0#32
  let v1288 : BitVec 1 := Scalar.cmpi .slt v1286 c0_i32_859
  let c0_i32_860 : BitVec 32 := 0#32
  let v1289 : BitVec 1 := Scalar.cmpi .slt v1285 c0_i32_860
  let v1290 : BitVec 1 := Scalar.xori v1288 v1289
  let c0_i32_858 : BitVec 32 := 0#32
  let v1287 : BitVec 1 := Scalar.cmpi .ne v1286 c0_i32_858
  let v1291 : BitVec 1 := Scalar.andi v1290 v1287
  let v1292 : BitVec 32 := Scalar.addi v1286 v1285
  let v1293 : BitVec 32 := Scalar.select v1291 v1292 v1286
  let c1_i32_861 : BitVec 32 := 1#32
  let v1294 : BitVec 1 := Scalar.cmpi .eq v1293 c1_i32_861
  let c2_i32_862 : BitVec 32 := 2#32
  let v1295 : BitVec 1 := Scalar.cmpi .eq v1293 c2_i32_862
  let v1296 : BitVec 1 := Scalar.ori v1294 v1295
  let c1_i32_863 : BitVec 32 := 1#32
  let c0_i32_864 : BitVec 32 := 0#32
  let v1297 : BitVec 32 := Scalar.select v1296 c1_i32_863 c0_i32_864
  let v1300 : BitVec 32 := Scalar.xori v1297 c1_i32_868
  let c1_i32_871 : BitVec 32 := 1#32
  let c2_i32_865 : BitVec 32 := 2#32
  let v1298 : BitVec 1 := Scalar.cmpi .sge v1293 c2_i32_865
  let c1_i32_866 : BitVec 32 := 1#32
  let c0_i32_867 : BitVec 32 := 0#32
  let v1299 : BitVec 32 := Scalar.select v1298 c1_i32_866 c0_i32_867
  let v1301 : BitVec 32 := Scalar.xori v1299 c0_i32_869
  let v1303 : BitVec 32 := Scalar.subi c1_i32_871 v1301
  let v1304 : BitVec 32 := Scalar.muli v1300 v1303
  let c2_i32_872 : BitVec 32 := 2#32
  let v1305 : BitVec 32 := Scalar.muli c2_i32_872 v1300
  let v1306 : BitVec 32 := Scalar.muli v1305 v1301
  let v1307 : BitVec 32 := Scalar.addi v1304 v1306
  let c3_i32_874 : BitVec 32 := 3#32
  let c1_i32_873 : BitVec 32 := 1#32
  let v1308 : BitVec 32 := Scalar.subi c1_i32_873 v1300
  let v1309 : BitVec 32 := Scalar.muli c3_i32_874 v1308
  let v1310 : BitVec 32 := Scalar.muli v1309 v1301
  let v1311 : BitVec 32 := Scalar.addi v1307 v1310
  let v1313 : BitVec 32 := Scalar.addi v1312 v1311
  let c512_i32_896 : BitVec 32 := 512#32
  let v1338 : BitVec 32 := Scalar.muli v1313 c512_i32_896
  let v1339 : Index := Scalar.indexCast v1338
  let c512 : Index := 512#32
  ![v1339.toNat, 512]
def k0_off3_at (r : Fin 7) : BitVec 32 × BitVec 32 × BitVec 32 :=
  if r.val < 3 then
    if r.val < 1 then
      (0#32, 1#32, 0#32)
    else
      if r.val < 2 then
        (0#32, 0#32, 1#32)
      else
        (1#32, 0#32, 0#32)
  else
    if r.val < 5 then
      if r.val < 4 then
        (0#32, 1#32, 1#32)
      else
        (1#32, 0#32, 1#32)
    else
      if r.val < 6 then
        (1#32, 1#32, 0#32)
      else
        (1#32, 1#32, 1#32)
def k0_dev14 (d0 : Dev nD) : Nat :=
  let c0_i32_1021 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_988 : BitVec 32 := 0#32
  let v1465 : BitVec 1 := Scalar.cmpi .sgt v2 c0_i32_988
  let v1466 : BitVec 32 := Scalar.extui v1465
  let c0_i32_989 : BitVec 32 := 0#32
  let v1467 : BitVec 1 := Scalar.cmpi .slt v2 c0_i32_989
  let v1468 : BitVec 32 := Scalar.extui v1467
  let v1469 : BitVec 32 := Scalar.subi v1466 v1468
  let c4_i32_987 : BitVec 32 := 4#32
  let c0_i32_990 : BitVec 32 := 0#32
  let v1470 : BitVec 1 := Scalar.cmpi .sgt c4_i32_987 c0_i32_990
  let v1471 : BitVec 32 := Scalar.extui v1470
  let c0_i32_991 : BitVec 32 := 0#32
  let v1472 : BitVec 1 := Scalar.cmpi .slt c4_i32_987 c0_i32_991
  let v1473 : BitVec 32 := Scalar.extui v1472
  let v1474 : BitVec 32 := Scalar.subi v1471 v1473
  let v1475 : BitVec 1 := Scalar.cmpi .ne v1469 v1474
  let v1476 : BitVec 32 := Scalar.remsi v2 c4_i32_987
  let c0_i32_992 : BitVec 32 := 0#32
  let v1477 : BitVec 1 := Scalar.cmpi .ne v1476 c0_i32_992
  let v1478 : BitVec 1 := Scalar.andi v1475 v1477
  let v1464 : BitVec 32 := Scalar.divsi v2 c4_i32_987
  let c1_i32_993 : BitVec 32 := 1#32
  let v1479 : BitVec 32 := Scalar.subi v1464 c1_i32_993
  let v1480 : BitVec 32 := Scalar.select v1478 v1479 v1464
  let c0_i32_1009 : BitVec 32 := 0#32
  let v1499 : BitVec 32 := Scalar.xori v1480 c0_i32_1009
  let c4_i32_1014 : BitVec 32 := 4#32
  let v1509 : BitVec 32 := Scalar.muli v1499 c4_i32_1014
  let c4_i32_994 : BitVec 32 := 4#32
  let c0_i32_995 : BitVec 32 := 0#32
  let v1481 : BitVec 1 := Scalar.cmpi .eq c4_i32_994 c0_i32_995
  let c1_i32_996 : BitVec 32 := 1#32
  let v1482 : BitVec 32 := Scalar.select v1481 c1_i32_996 c4_i32_994
  let v1483 : BitVec 32 := Scalar.remsi v2 v1482
  let c0_i32_998 : BitVec 32 := 0#32
  let v1485 : BitVec 1 := Scalar.cmpi .slt v1483 c0_i32_998
  let c0_i32_999 : BitVec 32 := 0#32
  let v1486 : BitVec 1 := Scalar.cmpi .slt v1482 c0_i32_999
  let v1487 : BitVec 1 := Scalar.xori v1485 v1486
  let c0_i32_997 : BitVec 32 := 0#32
  let v1484 : BitVec 1 := Scalar.cmpi .ne v1483 c0_i32_997
  let v1488 : BitVec 1 := Scalar.andi v1487 v1484
  let v1489 : BitVec 32 := Scalar.addi v1483 v1482
  let v1490 : BitVec 32 := Scalar.select v1488 v1489 v1483
  let c1_i32_1000 : BitVec 32 := 1#32
  let v1491 : BitVec 1 := Scalar.cmpi .eq v1490 c1_i32_1000
  let c2_i32_1001 : BitVec 32 := 2#32
  let v1492 : BitVec 1 := Scalar.cmpi .eq v1490 c2_i32_1001
  let v1493 : BitVec 1 := Scalar.ori v1491 v1492
  let c1_i32_1002 : BitVec 32 := 1#32
  let c0_i32_1003 : BitVec 32 := 0#32
  let v1494 : BitVec 32 := Scalar.select v1493 c1_i32_1002 c0_i32_1003
  let c1_i32_1007 : BitVec 32 := 1#32
  let v1497 : BitVec 32 := Scalar.xori v1494 c1_i32_1007
  let c1_i32_1010 : BitVec 32 := 1#32
  let c2_i32_1004 : BitVec 32 := 2#32
  let v1495 : BitVec 1 := Scalar.cmpi .sge v1490 c2_i32_1004
  let c1_i32_1005 : BitVec 32 := 1#32
  let c0_i32_1006 : BitVec 32 := 0#32
  let v1496 : BitVec 32 := Scalar.select v1495 c1_i32_1005 c0_i32_1006
  let c1_i32_1008 : BitVec 32 := 1#32
  let v1498 : BitVec 32 := Scalar.xori v1496 c1_i32_1008
  let v1500 : BitVec 32 := Scalar.subi c1_i32_1010 v1498
  let v1501 : BitVec 32 := Scalar.muli v1497 v1500
  let c2_i32_1011 : BitVec 32 := 2#32
  let v1502 : BitVec 32 := Scalar.muli c2_i32_1011 v1497
  let v1503 : BitVec 32 := Scalar.muli v1502 v1498
  let v1504 : BitVec 32 := Scalar.addi v1501 v1503
  let c3_i32_1013 : BitVec 32 := 3#32
  let c1_i32_1012 : BitVec 32 := 1#32
  let v1505 : BitVec 32 := Scalar.subi c1_i32_1012 v1497
  let v1506 : BitVec 32 := Scalar.muli c3_i32_1013 v1505
  let v1507 : BitVec 32 := Scalar.muli v1506 v1498
  let v1508 : BitVec 32 := Scalar.addi v1504 v1507
  let v1510 : BitVec 32 := Scalar.addi v1509 v1508
  let c1_i32_1020 : BitVec 32 := 1#32
  let v1511 : BitVec 32 := Scalar.muli v1510 c1_i32_1020
  let v1512 : BitVec 32 := Scalar.addi c0_i32_1021 v1511
  v1512.toNat
def k0_dev15 (d0 : Dev nD) : Nat :=
  let c0_i32_1200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1167 : BitVec 32 := 0#32
  let v1719 : BitVec 1 := Scalar.cmpi .sgt v2 c0_i32_1167
  let v1720 : BitVec 32 := Scalar.extui v1719
  let c0_i32_1168 : BitVec 32 := 0#32
  let v1721 : BitVec 1 := Scalar.cmpi .slt v2 c0_i32_1168
  let v1722 : BitVec 32 := Scalar.extui v1721
  let v1723 : BitVec 32 := Scalar.subi v1720 v1722
  let c4_i32_1166 : BitVec 32 := 4#32
  let c0_i32_1169 : BitVec 32 := 0#32
  let v1724 : BitVec 1 := Scalar.cmpi .sgt c4_i32_1166 c0_i32_1169
  let v1725 : BitVec 32 := Scalar.extui v1724
  let c0_i32_1170 : BitVec 32 := 0#32
  let v1726 : BitVec 1 := Scalar.cmpi .slt c4_i32_1166 c0_i32_1170
  let v1727 : BitVec 32 := Scalar.extui v1726
  let v1728 : BitVec 32 := Scalar.subi v1725 v1727
  let v1729 : BitVec 1 := Scalar.cmpi .ne v1723 v1728
  let v1730 : BitVec 32 := Scalar.remsi v2 c4_i32_1166
  let c0_i32_1171 : BitVec 32 := 0#32
  let v1731 : BitVec 1 := Scalar.cmpi .ne v1730 c0_i32_1171
  let v1732 : BitVec 1 := Scalar.andi v1729 v1731
  let v1718 : BitVec 32 := Scalar.divsi v2 c4_i32_1166
  let c1_i32_1172 : BitVec 32 := 1#32
  let v1733 : BitVec 32 := Scalar.subi v1718 c1_i32_1172
  let v1734 : BitVec 32 := Scalar.select v1732 v1733 v1718
  let c0_i32_1188 : BitVec 32 := 0#32
  let v1753 : BitVec 32 := Scalar.xori v1734 c0_i32_1188
  let c4_i32_1193 : BitVec 32 := 4#32
  let v1763 : BitVec 32 := Scalar.muli v1753 c4_i32_1193
  let c4_i32_1173 : BitVec 32 := 4#32
  let c0_i32_1174 : BitVec 32 := 0#32
  let v1735 : BitVec 1 := Scalar.cmpi .eq c4_i32_1173 c0_i32_1174
  let c1_i32_1175 : BitVec 32 := 1#32
  let v1736 : BitVec 32 := Scalar.select v1735 c1_i32_1175 c4_i32_1173
  let v1737 : BitVec 32 := Scalar.remsi v2 v1736
  let c0_i32_1177 : BitVec 32 := 0#32
  let v1739 : BitVec 1 := Scalar.cmpi .slt v1737 c0_i32_1177
  let c0_i32_1178 : BitVec 32 := 0#32
  let v1740 : BitVec 1 := Scalar.cmpi .slt v1736 c0_i32_1178
  let v1741 : BitVec 1 := Scalar.xori v1739 v1740
  let c0_i32_1176 : BitVec 32 := 0#32
  let v1738 : BitVec 1 := Scalar.cmpi .ne v1737 c0_i32_1176
  let v1742 : BitVec 1 := Scalar.andi v1741 v1738
  let v1743 : BitVec 32 := Scalar.addi v1737 v1736
  let v1744 : BitVec 32 := Scalar.select v1742 v1743 v1737
  let c1_i32_1179 : BitVec 32 := 1#32
  let v1745 : BitVec 1 := Scalar.cmpi .eq v1744 c1_i32_1179
  let c2_i32_1180 : BitVec 32 := 2#32
  let v1746 : BitVec 1 := Scalar.cmpi .eq v1744 c2_i32_1180
  let v1747 : BitVec 1 := Scalar.ori v1745 v1746
  let c1_i32_1181 : BitVec 32 := 1#32
  let c0_i32_1182 : BitVec 32 := 0#32
  let v1748 : BitVec 32 := Scalar.select v1747 c1_i32_1181 c0_i32_1182
  let c1_i32_1186 : BitVec 32 := 1#32
  let v1751 : BitVec 32 := Scalar.xori v1748 c1_i32_1186
  let c1_i32_1189 : BitVec 32 := 1#32
  let c2_i32_1183 : BitVec 32 := 2#32
  let v1749 : BitVec 1 := Scalar.cmpi .sge v1744 c2_i32_1183
  let c1_i32_1184 : BitVec 32 := 1#32
  let c0_i32_1185 : BitVec 32 := 0#32
  let v1750 : BitVec 32 := Scalar.select v1749 c1_i32_1184 c0_i32_1185
  let c1_i32_1187 : BitVec 32 := 1#32
  let v1752 : BitVec 32 := Scalar.xori v1750 c1_i32_1187
  let v1754 : BitVec 32 := Scalar.subi c1_i32_1189 v1752
  let v1755 : BitVec 32 := Scalar.muli v1751 v1754
  let c2_i32_1190 : BitVec 32 := 2#32
  let v1756 : BitVec 32 := Scalar.muli c2_i32_1190 v1751
  let v1757 : BitVec 32 := Scalar.muli v1756 v1752
  let v1758 : BitVec 32 := Scalar.addi v1755 v1757
  let c3_i32_1192 : BitVec 32 := 3#32
  let c1_i32_1191 : BitVec 32 := 1#32
  let v1759 : BitVec 32 := Scalar.subi c1_i32_1191 v1751
  let v1760 : BitVec 32 := Scalar.muli c3_i32_1192 v1759
  let v1761 : BitVec 32 := Scalar.muli v1760 v1752
  let v1762 : BitVec 32 := Scalar.addi v1758 v1761
  let v1764 : BitVec 32 := Scalar.addi v1763 v1762
  let c1_i32_1199 : BitVec 32 := 1#32
  let v1765 : BitVec 32 := Scalar.muli v1764 c1_i32_1199
  let v1766 : BitVec 32 := Scalar.addi c0_i32_1200 v1765
  v1766.toNat
def k0_dev16 (d0 : Dev nD) : Nat :=
  let c0_i32_1379 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1346 : BitVec 32 := 0#32
  let v1973 : BitVec 1 := Scalar.cmpi .sgt v2 c0_i32_1346
  let v1974 : BitVec 32 := Scalar.extui v1973
  let c0_i32_1347 : BitVec 32 := 0#32
  let v1975 : BitVec 1 := Scalar.cmpi .slt v2 c0_i32_1347
  let v1976 : BitVec 32 := Scalar.extui v1975
  let v1977 : BitVec 32 := Scalar.subi v1974 v1976
  let c4_i32_1345 : BitVec 32 := 4#32
  let c0_i32_1348 : BitVec 32 := 0#32
  let v1978 : BitVec 1 := Scalar.cmpi .sgt c4_i32_1345 c0_i32_1348
  let v1979 : BitVec 32 := Scalar.extui v1978
  let c0_i32_1349 : BitVec 32 := 0#32
  let v1980 : BitVec 1 := Scalar.cmpi .slt c4_i32_1345 c0_i32_1349
  let v1981 : BitVec 32 := Scalar.extui v1980
  let v1982 : BitVec 32 := Scalar.subi v1979 v1981
  let v1983 : BitVec 1 := Scalar.cmpi .ne v1977 v1982
  let v1984 : BitVec 32 := Scalar.remsi v2 c4_i32_1345
  let c0_i32_1350 : BitVec 32 := 0#32
  let v1985 : BitVec 1 := Scalar.cmpi .ne v1984 c0_i32_1350
  let v1986 : BitVec 1 := Scalar.andi v1983 v1985
  let v1972 : BitVec 32 := Scalar.divsi v2 c4_i32_1345
  let c1_i32_1351 : BitVec 32 := 1#32
  let v1987 : BitVec 32 := Scalar.subi v1972 c1_i32_1351
  let v1988 : BitVec 32 := Scalar.select v1986 v1987 v1972
  let c1_i32_1367 : BitVec 32 := 1#32
  let v2007 : BitVec 32 := Scalar.xori v1988 c1_i32_1367
  let c4_i32_1372 : BitVec 32 := 4#32
  let v2017 : BitVec 32 := Scalar.muli v2007 c4_i32_1372
  let c4_i32_1352 : BitVec 32 := 4#32
  let c0_i32_1353 : BitVec 32 := 0#32
  let v1989 : BitVec 1 := Scalar.cmpi .eq c4_i32_1352 c0_i32_1353
  let c1_i32_1354 : BitVec 32 := 1#32
  let v1990 : BitVec 32 := Scalar.select v1989 c1_i32_1354 c4_i32_1352
  let v1991 : BitVec 32 := Scalar.remsi v2 v1990
  let c0_i32_1356 : BitVec 32 := 0#32
  let v1993 : BitVec 1 := Scalar.cmpi .slt v1991 c0_i32_1356
  let c0_i32_1357 : BitVec 32 := 0#32
  let v1994 : BitVec 1 := Scalar.cmpi .slt v1990 c0_i32_1357
  let v1995 : BitVec 1 := Scalar.xori v1993 v1994
  let c0_i32_1355 : BitVec 32 := 0#32
  let v1992 : BitVec 1 := Scalar.cmpi .ne v1991 c0_i32_1355
  let v1996 : BitVec 1 := Scalar.andi v1995 v1992
  let v1997 : BitVec 32 := Scalar.addi v1991 v1990
  let v1998 : BitVec 32 := Scalar.select v1996 v1997 v1991
  let c1_i32_1358 : BitVec 32 := 1#32
  let v1999 : BitVec 1 := Scalar.cmpi .eq v1998 c1_i32_1358
  let c2_i32_1359 : BitVec 32 := 2#32
  let v2000 : BitVec 1 := Scalar.cmpi .eq v1998 c2_i32_1359
  let v2001 : BitVec 1 := Scalar.ori v1999 v2000
  let c1_i32_1360 : BitVec 32 := 1#32
  let c0_i32_1361 : BitVec 32 := 0#32
  let v2002 : BitVec 32 := Scalar.select v2001 c1_i32_1360 c0_i32_1361
  let c0_i32_1365 : BitVec 32 := 0#32
  let v2005 : BitVec 32 := Scalar.xori v2002 c0_i32_1365
  let c1_i32_1368 : BitVec 32 := 1#32
  let c2_i32_1362 : BitVec 32 := 2#32
  let v2003 : BitVec 1 := Scalar.cmpi .sge v1998 c2_i32_1362
  let c1_i32_1363 : BitVec 32 := 1#32
  let c0_i32_1364 : BitVec 32 := 0#32
  let v2004 : BitVec 32 := Scalar.select v2003 c1_i32_1363 c0_i32_1364
  let c1_i32_1366 : BitVec 32 := 1#32
  let v2006 : BitVec 32 := Scalar.xori v2004 c1_i32_1366
  let v2008 : BitVec 32 := Scalar.subi c1_i32_1368 v2006
  let v2009 : BitVec 32 := Scalar.muli v2005 v2008
  let c2_i32_1369 : BitVec 32 := 2#32
  let v2010 : BitVec 32 := Scalar.muli c2_i32_1369 v2005
  let v2011 : BitVec 32 := Scalar.muli v2010 v2006
  let v2012 : BitVec 32 := Scalar.addi v2009 v2011
  let c3_i32_1371 : BitVec 32 := 3#32
  let c1_i32_1370 : BitVec 32 := 1#32
  let v2013 : BitVec 32 := Scalar.subi c1_i32_1370 v2005
  let v2014 : BitVec 32 := Scalar.muli c3_i32_1371 v2013
  let v2015 : BitVec 32 := Scalar.muli v2014 v2006
  let v2016 : BitVec 32 := Scalar.addi v2012 v2015
  let v2018 : BitVec 32 := Scalar.addi v2017 v2016
  let c1_i32_1378 : BitVec 32 := 1#32
  let v2019 : BitVec 32 := Scalar.muli v2018 c1_i32_1378
  let v2020 : BitVec 32 := Scalar.addi c0_i32_1379 v2019
  v2020.toNat
def k0_dev17 (d0 : Dev nD) : Nat :=
  let c0_i32_1557 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1525 : BitVec 32 := 0#32
  let v2227 : BitVec 1 := Scalar.cmpi .sgt v2 c0_i32_1525
  let v2228 : BitVec 32 := Scalar.extui v2227
  let c0_i32_1526 : BitVec 32 := 0#32
  let v2229 : BitVec 1 := Scalar.cmpi .slt v2 c0_i32_1526
  let v2230 : BitVec 32 := Scalar.extui v2229
  let v2231 : BitVec 32 := Scalar.subi v2228 v2230
  let c4_i32_1524 : BitVec 32 := 4#32
  let c0_i32_1527 : BitVec 32 := 0#32
  let v2232 : BitVec 1 := Scalar.cmpi .sgt c4_i32_1524 c0_i32_1527
  let v2233 : BitVec 32 := Scalar.extui v2232
  let c0_i32_1528 : BitVec 32 := 0#32
  let v2234 : BitVec 1 := Scalar.cmpi .slt c4_i32_1524 c0_i32_1528
  let v2235 : BitVec 32 := Scalar.extui v2234
  let v2236 : BitVec 32 := Scalar.subi v2233 v2235
  let v2237 : BitVec 1 := Scalar.cmpi .ne v2231 v2236
  let v2238 : BitVec 32 := Scalar.remsi v2 c4_i32_1524
  let c0_i32_1529 : BitVec 32 := 0#32
  let v2239 : BitVec 1 := Scalar.cmpi .ne v2238 c0_i32_1529
  let v2240 : BitVec 1 := Scalar.andi v2237 v2239
  let v2226 : BitVec 32 := Scalar.divsi v2 c4_i32_1524
  let c1_i32_1530 : BitVec 32 := 1#32
  let v2241 : BitVec 32 := Scalar.subi v2226 c1_i32_1530
  let v2242 : BitVec 32 := Scalar.select v2240 v2241 v2226
  let c1_i32_1546 : BitVec 32 := 1#32
  let v2261 : BitVec 32 := Scalar.xori v2242 c1_i32_1546
  let c4_i32_1551 : BitVec 32 := 4#32
  let v2271 : BitVec 32 := Scalar.muli v2261 c4_i32_1551
  let c4_i32_1531 : BitVec 32 := 4#32
  let c0_i32_1532 : BitVec 32 := 0#32
  let v2243 : BitVec 1 := Scalar.cmpi .eq c4_i32_1531 c0_i32_1532
  let c1_i32_1533 : BitVec 32 := 1#32
  let v2244 : BitVec 32 := Scalar.select v2243 c1_i32_1533 c4_i32_1531
  let v2245 : BitVec 32 := Scalar.remsi v2 v2244
  let c0_i32_1535 : BitVec 32 := 0#32
  let v2247 : BitVec 1 := Scalar.cmpi .slt v2245 c0_i32_1535
  let c0_i32_1536 : BitVec 32 := 0#32
  let v2248 : BitVec 1 := Scalar.cmpi .slt v2244 c0_i32_1536
  let v2249 : BitVec 1 := Scalar.xori v2247 v2248
  let c0_i32_1534 : BitVec 32 := 0#32
  let v2246 : BitVec 1 := Scalar.cmpi .ne v2245 c0_i32_1534
  let v2250 : BitVec 1 := Scalar.andi v2249 v2246
  let v2251 : BitVec 32 := Scalar.addi v2245 v2244
  let v2252 : BitVec 32 := Scalar.select v2250 v2251 v2245
  let c1_i32_1537 : BitVec 32 := 1#32
  let v2253 : BitVec 1 := Scalar.cmpi .eq v2252 c1_i32_1537
  let c2_i32_1538 : BitVec 32 := 2#32
  let v2254 : BitVec 1 := Scalar.cmpi .eq v2252 c2_i32_1538
  let v2255 : BitVec 1 := Scalar.ori v2253 v2254
  let c1_i32_1539 : BitVec 32 := 1#32
  let c0_i32_1540 : BitVec 32 := 0#32
  let v2256 : BitVec 32 := Scalar.select v2255 c1_i32_1539 c0_i32_1540
  let c0_i32_1544 : BitVec 32 := 0#32
  let v2259 : BitVec 32 := Scalar.xori v2256 c0_i32_1544
  let c1_i32_1547 : BitVec 32 := 1#32
  let c2_i32_1541 : BitVec 32 := 2#32
  let v2257 : BitVec 1 := Scalar.cmpi .sge v2252 c2_i32_1541
  let c1_i32_1542 : BitVec 32 := 1#32
  let c0_i32_1543 : BitVec 32 := 0#32
  let v2258 : BitVec 32 := Scalar.select v2257 c1_i32_1542 c0_i32_1543
  let c1_i32_1545 : BitVec 32 := 1#32
  let v2260 : BitVec 32 := Scalar.xori v2258 c1_i32_1545
  let v2262 : BitVec 32 := Scalar.subi c1_i32_1547 v2260
  let v2263 : BitVec 32 := Scalar.muli v2259 v2262
  let c2_i32_1548 : BitVec 32 := 2#32
  let v2264 : BitVec 32 := Scalar.muli c2_i32_1548 v2259
  let v2265 : BitVec 32 := Scalar.muli v2264 v2260
  let v2266 : BitVec 32 := Scalar.addi v2263 v2265
  let c3_i32_1550 : BitVec 32 := 3#32
  let c1_i32_1549 : BitVec 32 := 1#32
  let v2267 : BitVec 32 := Scalar.subi c1_i32_1549 v2259
  let v2268 : BitVec 32 := Scalar.muli c3_i32_1550 v2267
  let v2269 : BitVec 32 := Scalar.muli v2268 v2260
  let v2270 : BitVec 32 := Scalar.addi v2266 v2269
  let v2272 : BitVec 32 := Scalar.addi v2271 v2270
  let c1_i32_1556 : BitVec 32 := 1#32
  let v2273 : BitVec 32 := Scalar.muli v2272 c1_i32_1556
  let v2274 : BitVec 32 := Scalar.addi c0_i32_1557 v2273
  v2274.toNat
def k0_dev18 (d0 : Dev nD) : Nat :=
  let c0_i32_1735 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1703 : BitVec 32 := 0#32
  let v2481 : BitVec 1 := Scalar.cmpi .sgt v2 c0_i32_1703
  let v2482 : BitVec 32 := Scalar.extui v2481
  let c0_i32_1704 : BitVec 32 := 0#32
  let v2483 : BitVec 1 := Scalar.cmpi .slt v2 c0_i32_1704
  let v2484 : BitVec 32 := Scalar.extui v2483
  let v2485 : BitVec 32 := Scalar.subi v2482 v2484
  let c4_i32_1702 : BitVec 32 := 4#32
  let c0_i32_1705 : BitVec 32 := 0#32
  let v2486 : BitVec 1 := Scalar.cmpi .sgt c4_i32_1702 c0_i32_1705
  let v2487 : BitVec 32 := Scalar.extui v2486
  let c0_i32_1706 : BitVec 32 := 0#32
  let v2488 : BitVec 1 := Scalar.cmpi .slt c4_i32_1702 c0_i32_1706
  let v2489 : BitVec 32 := Scalar.extui v2488
  let v2490 : BitVec 32 := Scalar.subi v2487 v2489
  let v2491 : BitVec 1 := Scalar.cmpi .ne v2485 v2490
  let v2492 : BitVec 32 := Scalar.remsi v2 c4_i32_1702
  let c0_i32_1707 : BitVec 32 := 0#32
  let v2493 : BitVec 1 := Scalar.cmpi .ne v2492 c0_i32_1707
  let v2494 : BitVec 1 := Scalar.andi v2491 v2493
  let v2480 : BitVec 32 := Scalar.divsi v2 c4_i32_1702
  let c1_i32_1708 : BitVec 32 := 1#32
  let v2495 : BitVec 32 := Scalar.subi v2480 c1_i32_1708
  let v2496 : BitVec 32 := Scalar.select v2494 v2495 v2480
  let c1_i32_1724 : BitVec 32 := 1#32
  let v2515 : BitVec 32 := Scalar.xori v2496 c1_i32_1724
  let c4_i32_1729 : BitVec 32 := 4#32
  let v2525 : BitVec 32 := Scalar.muli v2515 c4_i32_1729
  let c4_i32_1709 : BitVec 32 := 4#32
  let c0_i32_1710 : BitVec 32 := 0#32
  let v2497 : BitVec 1 := Scalar.cmpi .eq c4_i32_1709 c0_i32_1710
  let c1_i32_1711 : BitVec 32 := 1#32
  let v2498 : BitVec 32 := Scalar.select v2497 c1_i32_1711 c4_i32_1709
  let v2499 : BitVec 32 := Scalar.remsi v2 v2498
  let c0_i32_1713 : BitVec 32 := 0#32
  let v2501 : BitVec 1 := Scalar.cmpi .slt v2499 c0_i32_1713
  let c0_i32_1714 : BitVec 32 := 0#32
  let v2502 : BitVec 1 := Scalar.cmpi .slt v2498 c0_i32_1714
  let v2503 : BitVec 1 := Scalar.xori v2501 v2502
  let c0_i32_1712 : BitVec 32 := 0#32
  let v2500 : BitVec 1 := Scalar.cmpi .ne v2499 c0_i32_1712
  let v2504 : BitVec 1 := Scalar.andi v2503 v2500
  let v2505 : BitVec 32 := Scalar.addi v2499 v2498
  let v2506 : BitVec 32 := Scalar.select v2504 v2505 v2499
  let c1_i32_1715 : BitVec 32 := 1#32
  let v2507 : BitVec 1 := Scalar.cmpi .eq v2506 c1_i32_1715
  let c2_i32_1716 : BitVec 32 := 2#32
  let v2508 : BitVec 1 := Scalar.cmpi .eq v2506 c2_i32_1716
  let v2509 : BitVec 1 := Scalar.ori v2507 v2508
  let c1_i32_1717 : BitVec 32 := 1#32
  let c0_i32_1718 : BitVec 32 := 0#32
  let v2510 : BitVec 32 := Scalar.select v2509 c1_i32_1717 c0_i32_1718
  let c1_i32_1722 : BitVec 32 := 1#32
  let v2513 : BitVec 32 := Scalar.xori v2510 c1_i32_1722
  let c1_i32_1725 : BitVec 32 := 1#32
  let c2_i32_1719 : BitVec 32 := 2#32
  let v2511 : BitVec 1 := Scalar.cmpi .sge v2506 c2_i32_1719
  let c1_i32_1720 : BitVec 32 := 1#32
  let c0_i32_1721 : BitVec 32 := 0#32
  let v2512 : BitVec 32 := Scalar.select v2511 c1_i32_1720 c0_i32_1721
  let c0_i32_1723 : BitVec 32 := 0#32
  let v2514 : BitVec 32 := Scalar.xori v2512 c0_i32_1723
  let v2516 : BitVec 32 := Scalar.subi c1_i32_1725 v2514
  let v2517 : BitVec 32 := Scalar.muli v2513 v2516
  let c2_i32_1726 : BitVec 32 := 2#32
  let v2518 : BitVec 32 := Scalar.muli c2_i32_1726 v2513
  let v2519 : BitVec 32 := Scalar.muli v2518 v2514
  let v2520 : BitVec 32 := Scalar.addi v2517 v2519
  let c3_i32_1728 : BitVec 32 := 3#32
  let c1_i32_1727 : BitVec 32 := 1#32
  let v2521 : BitVec 32 := Scalar.subi c1_i32_1727 v2513
  let v2522 : BitVec 32 := Scalar.muli c3_i32_1728 v2521
  let v2523 : BitVec 32 := Scalar.muli v2522 v2514
  let v2524 : BitVec 32 := Scalar.addi v2520 v2523
  let v2526 : BitVec 32 := Scalar.addi v2525 v2524
  let c1_i32_1734 : BitVec 32 := 1#32
  let v2527 : BitVec 32 := Scalar.muli v2526 c1_i32_1734
  let v2528 : BitVec 32 := Scalar.addi c0_i32_1735 v2527
  v2528.toNat
def k0_dev19 (d0 : Dev nD) : Nat :=
  let c0_i32_1913 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1881 : BitVec 32 := 0#32
  let v2735 : BitVec 1 := Scalar.cmpi .sgt v2 c0_i32_1881
  let v2736 : BitVec 32 := Scalar.extui v2735
  let c0_i32_1882 : BitVec 32 := 0#32
  let v2737 : BitVec 1 := Scalar.cmpi .slt v2 c0_i32_1882
  let v2738 : BitVec 32 := Scalar.extui v2737
  let v2739 : BitVec 32 := Scalar.subi v2736 v2738
  let c4_i32_1880 : BitVec 32 := 4#32
  let c0_i32_1883 : BitVec 32 := 0#32
  let v2740 : BitVec 1 := Scalar.cmpi .sgt c4_i32_1880 c0_i32_1883
  let v2741 : BitVec 32 := Scalar.extui v2740
  let c0_i32_1884 : BitVec 32 := 0#32
  let v2742 : BitVec 1 := Scalar.cmpi .slt c4_i32_1880 c0_i32_1884
  let v2743 : BitVec 32 := Scalar.extui v2742
  let v2744 : BitVec 32 := Scalar.subi v2741 v2743
  let v2745 : BitVec 1 := Scalar.cmpi .ne v2739 v2744
  let v2746 : BitVec 32 := Scalar.remsi v2 c4_i32_1880
  let c0_i32_1885 : BitVec 32 := 0#32
  let v2747 : BitVec 1 := Scalar.cmpi .ne v2746 c0_i32_1885
  let v2748 : BitVec 1 := Scalar.andi v2745 v2747
  let v2734 : BitVec 32 := Scalar.divsi v2 c4_i32_1880
  let c1_i32_1886 : BitVec 32 := 1#32
  let v2749 : BitVec 32 := Scalar.subi v2734 c1_i32_1886
  let v2750 : BitVec 32 := Scalar.select v2748 v2749 v2734
  let c1_i32_1902 : BitVec 32 := 1#32
  let v2769 : BitVec 32 := Scalar.xori v2750 c1_i32_1902
  let c4_i32_1907 : BitVec 32 := 4#32
  let v2779 : BitVec 32 := Scalar.muli v2769 c4_i32_1907
  let c4_i32_1887 : BitVec 32 := 4#32
  let c0_i32_1888 : BitVec 32 := 0#32
  let v2751 : BitVec 1 := Scalar.cmpi .eq c4_i32_1887 c0_i32_1888
  let c1_i32_1889 : BitVec 32 := 1#32
  let v2752 : BitVec 32 := Scalar.select v2751 c1_i32_1889 c4_i32_1887
  let v2753 : BitVec 32 := Scalar.remsi v2 v2752
  let c0_i32_1891 : BitVec 32 := 0#32
  let v2755 : BitVec 1 := Scalar.cmpi .slt v2753 c0_i32_1891
  let c0_i32_1892 : BitVec 32 := 0#32
  let v2756 : BitVec 1 := Scalar.cmpi .slt v2752 c0_i32_1892
  let v2757 : BitVec 1 := Scalar.xori v2755 v2756
  let c0_i32_1890 : BitVec 32 := 0#32
  let v2754 : BitVec 1 := Scalar.cmpi .ne v2753 c0_i32_1890
  let v2758 : BitVec 1 := Scalar.andi v2757 v2754
  let v2759 : BitVec 32 := Scalar.addi v2753 v2752
  let v2760 : BitVec 32 := Scalar.select v2758 v2759 v2753
  let c1_i32_1893 : BitVec 32 := 1#32
  let v2761 : BitVec 1 := Scalar.cmpi .eq v2760 c1_i32_1893
  let c2_i32_1894 : BitVec 32 := 2#32
  let v2762 : BitVec 1 := Scalar.cmpi .eq v2760 c2_i32_1894
  let v2763 : BitVec 1 := Scalar.ori v2761 v2762
  let c1_i32_1895 : BitVec 32 := 1#32
  let c0_i32_1896 : BitVec 32 := 0#32
  let v2764 : BitVec 32 := Scalar.select v2763 c1_i32_1895 c0_i32_1896
  let c1_i32_1900 : BitVec 32 := 1#32
  let v2767 : BitVec 32 := Scalar.xori v2764 c1_i32_1900
  let c1_i32_1903 : BitVec 32 := 1#32
  let c2_i32_1897 : BitVec 32 := 2#32
  let v2765 : BitVec 1 := Scalar.cmpi .sge v2760 c2_i32_1897
  let c1_i32_1898 : BitVec 32 := 1#32
  let c0_i32_1899 : BitVec 32 := 0#32
  let v2766 : BitVec 32 := Scalar.select v2765 c1_i32_1898 c0_i32_1899
  let c0_i32_1901 : BitVec 32 := 0#32
  let v2768 : BitVec 32 := Scalar.xori v2766 c0_i32_1901
  let v2770 : BitVec 32 := Scalar.subi c1_i32_1903 v2768
  let v2771 : BitVec 32 := Scalar.muli v2767 v2770
  let c2_i32_1904 : BitVec 32 := 2#32
  let v2772 : BitVec 32 := Scalar.muli c2_i32_1904 v2767
  let v2773 : BitVec 32 := Scalar.muli v2772 v2768
  let v2774 : BitVec 32 := Scalar.addi v2771 v2773
  let c3_i32_1906 : BitVec 32 := 3#32
  let c1_i32_1905 : BitVec 32 := 1#32
  let v2775 : BitVec 32 := Scalar.subi c1_i32_1905 v2767
  let v2776 : BitVec 32 := Scalar.muli c3_i32_1906 v2775
  let v2777 : BitVec 32 := Scalar.muli v2776 v2768
  let v2778 : BitVec 32 := Scalar.addi v2774 v2777
  let v2780 : BitVec 32 := Scalar.addi v2779 v2778
  let c1_i32_1912 : BitVec 32 := 1#32
  let v2781 : BitVec 32 := Scalar.muli v2780 c1_i32_1912
  let v2782 : BitVec 32 := Scalar.addi c0_i32_1913 v2781
  v2782.toNat
def k0_dev20 (d0 : Dev nD) : Nat :=
  let c0_i32_2091 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2059 : BitVec 32 := 0#32
  let v2989 : BitVec 1 := Scalar.cmpi .sgt v2 c0_i32_2059
  let v2990 : BitVec 32 := Scalar.extui v2989
  let c0_i32_2060 : BitVec 32 := 0#32
  let v2991 : BitVec 1 := Scalar.cmpi .slt v2 c0_i32_2060
  let v2992 : BitVec 32 := Scalar.extui v2991
  let v2993 : BitVec 32 := Scalar.subi v2990 v2992
  let c4_i32_2058 : BitVec 32 := 4#32
  let c0_i32_2061 : BitVec 32 := 0#32
  let v2994 : BitVec 1 := Scalar.cmpi .sgt c4_i32_2058 c0_i32_2061
  let v2995 : BitVec 32 := Scalar.extui v2994
  let c0_i32_2062 : BitVec 32 := 0#32
  let v2996 : BitVec 1 := Scalar.cmpi .slt c4_i32_2058 c0_i32_2062
  let v2997 : BitVec 32 := Scalar.extui v2996
  let v2998 : BitVec 32 := Scalar.subi v2995 v2997
  let v2999 : BitVec 1 := Scalar.cmpi .ne v2993 v2998
  let v3000 : BitVec 32 := Scalar.remsi v2 c4_i32_2058
  let c0_i32_2063 : BitVec 32 := 0#32
  let v3001 : BitVec 1 := Scalar.cmpi .ne v3000 c0_i32_2063
  let v3002 : BitVec 1 := Scalar.andi v2999 v3001
  let v2988 : BitVec 32 := Scalar.divsi v2 c4_i32_2058
  let c1_i32_2064 : BitVec 32 := 1#32
  let v3003 : BitVec 32 := Scalar.subi v2988 c1_i32_2064
  let v3004 : BitVec 32 := Scalar.select v3002 v3003 v2988
  let c1_i32_2080 : BitVec 32 := 1#32
  let v3023 : BitVec 32 := Scalar.xori v3004 c1_i32_2080
  let c4_i32_2085 : BitVec 32 := 4#32
  let v3033 : BitVec 32 := Scalar.muli v3023 c4_i32_2085
  let c4_i32_2065 : BitVec 32 := 4#32
  let c0_i32_2066 : BitVec 32 := 0#32
  let v3005 : BitVec 1 := Scalar.cmpi .eq c4_i32_2065 c0_i32_2066
  let c1_i32_2067 : BitVec 32 := 1#32
  let v3006 : BitVec 32 := Scalar.select v3005 c1_i32_2067 c4_i32_2065
  let v3007 : BitVec 32 := Scalar.remsi v2 v3006
  let c0_i32_2069 : BitVec 32 := 0#32
  let v3009 : BitVec 1 := Scalar.cmpi .slt v3007 c0_i32_2069
  let c0_i32_2070 : BitVec 32 := 0#32
  let v3010 : BitVec 1 := Scalar.cmpi .slt v3006 c0_i32_2070
  let v3011 : BitVec 1 := Scalar.xori v3009 v3010
  let c0_i32_2068 : BitVec 32 := 0#32
  let v3008 : BitVec 1 := Scalar.cmpi .ne v3007 c0_i32_2068
  let v3012 : BitVec 1 := Scalar.andi v3011 v3008
  let v3013 : BitVec 32 := Scalar.addi v3007 v3006
  let v3014 : BitVec 32 := Scalar.select v3012 v3013 v3007
  let c1_i32_2071 : BitVec 32 := 1#32
  let v3015 : BitVec 1 := Scalar.cmpi .eq v3014 c1_i32_2071
  let c2_i32_2072 : BitVec 32 := 2#32
  let v3016 : BitVec 1 := Scalar.cmpi .eq v3014 c2_i32_2072
  let v3017 : BitVec 1 := Scalar.ori v3015 v3016
  let c1_i32_2073 : BitVec 32 := 1#32
  let c0_i32_2074 : BitVec 32 := 0#32
  let v3018 : BitVec 32 := Scalar.select v3017 c1_i32_2073 c0_i32_2074
  let c1_i32_2078 : BitVec 32 := 1#32
  let v3021 : BitVec 32 := Scalar.xori v3018 c1_i32_2078
  let c1_i32_2081 : BitVec 32 := 1#32
  let c2_i32_2075 : BitVec 32 := 2#32
  let v3019 : BitVec 1 := Scalar.cmpi .sge v3014 c2_i32_2075
  let c1_i32_2076 : BitVec 32 := 1#32
  let c0_i32_2077 : BitVec 32 := 0#32
  let v3020 : BitVec 32 := Scalar.select v3019 c1_i32_2076 c0_i32_2077
  let c1_i32_2079 : BitVec 32 := 1#32
  let v3022 : BitVec 32 := Scalar.xori v3020 c1_i32_2079
  let v3024 : BitVec 32 := Scalar.subi c1_i32_2081 v3022
  let v3025 : BitVec 32 := Scalar.muli v3021 v3024
  let c2_i32_2082 : BitVec 32 := 2#32
  let v3026 : BitVec 32 := Scalar.muli c2_i32_2082 v3021
  let v3027 : BitVec 32 := Scalar.muli v3026 v3022
  let v3028 : BitVec 32 := Scalar.addi v3025 v3027
  let c3_i32_2084 : BitVec 32 := 3#32
  let c1_i32_2083 : BitVec 32 := 1#32
  let v3029 : BitVec 32 := Scalar.subi c1_i32_2083 v3021
  let v3030 : BitVec 32 := Scalar.muli c3_i32_2084 v3029
  let v3031 : BitVec 32 := Scalar.muli v3030 v3022
  let v3032 : BitVec 32 := Scalar.addi v3028 v3031
  let v3034 : BitVec 32 := Scalar.addi v3033 v3032
  let c1_i32_2090 : BitVec 32 := 1#32
  let v3035 : BitVec 32 := Scalar.muli v3034 c1_i32_2090
  let v3036 : BitVec 32 := Scalar.addi c0_i32_2091 v3035
  v3036.toNat
def k0_dev21 (d0 : Dev nD) : Nat :=
  let c0_i32_2269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2237 : BitVec 32 := 0#32
  let v3243 : BitVec 1 := Scalar.cmpi .sgt v2 c0_i32_2237
  let v3244 : BitVec 32 := Scalar.extui v3243
  let c0_i32_2238 : BitVec 32 := 0#32
  let v3245 : BitVec 1 := Scalar.cmpi .slt v2 c0_i32_2238
  let v3246 : BitVec 32 := Scalar.extui v3245
  let v3247 : BitVec 32 := Scalar.subi v3244 v3246
  let c4_i32_2236 : BitVec 32 := 4#32
  let c0_i32_2239 : BitVec 32 := 0#32
  let v3248 : BitVec 1 := Scalar.cmpi .sgt c4_i32_2236 c0_i32_2239
  let v3249 : BitVec 32 := Scalar.extui v3248
  let c0_i32_2240 : BitVec 32 := 0#32
  let v3250 : BitVec 1 := Scalar.cmpi .slt c4_i32_2236 c0_i32_2240
  let v3251 : BitVec 32 := Scalar.extui v3250
  let v3252 : BitVec 32 := Scalar.subi v3249 v3251
  let v3253 : BitVec 1 := Scalar.cmpi .ne v3247 v3252
  let v3254 : BitVec 32 := Scalar.remsi v2 c4_i32_2236
  let c0_i32_2241 : BitVec 32 := 0#32
  let v3255 : BitVec 1 := Scalar.cmpi .ne v3254 c0_i32_2241
  let v3256 : BitVec 1 := Scalar.andi v3253 v3255
  let v3242 : BitVec 32 := Scalar.divsi v2 c4_i32_2236
  let c1_i32_2242 : BitVec 32 := 1#32
  let v3257 : BitVec 32 := Scalar.subi v3242 c1_i32_2242
  let v3258 : BitVec 32 := Scalar.select v3256 v3257 v3242
  let c1_i32_2258 : BitVec 32 := 1#32
  let v3277 : BitVec 32 := Scalar.xori v3258 c1_i32_2258
  let c4_i32_2263 : BitVec 32 := 4#32
  let v3287 : BitVec 32 := Scalar.muli v3277 c4_i32_2263
  let c4_i32_2243 : BitVec 32 := 4#32
  let c0_i32_2244 : BitVec 32 := 0#32
  let v3259 : BitVec 1 := Scalar.cmpi .eq c4_i32_2243 c0_i32_2244
  let c1_i32_2245 : BitVec 32 := 1#32
  let v3260 : BitVec 32 := Scalar.select v3259 c1_i32_2245 c4_i32_2243
  let v3261 : BitVec 32 := Scalar.remsi v2 v3260
  let c0_i32_2247 : BitVec 32 := 0#32
  let v3263 : BitVec 1 := Scalar.cmpi .slt v3261 c0_i32_2247
  let c0_i32_2248 : BitVec 32 := 0#32
  let v3264 : BitVec 1 := Scalar.cmpi .slt v3260 c0_i32_2248
  let v3265 : BitVec 1 := Scalar.xori v3263 v3264
  let c0_i32_2246 : BitVec 32 := 0#32
  let v3262 : BitVec 1 := Scalar.cmpi .ne v3261 c0_i32_2246
  let v3266 : BitVec 1 := Scalar.andi v3265 v3262
  let v3267 : BitVec 32 := Scalar.addi v3261 v3260
  let v3268 : BitVec 32 := Scalar.select v3266 v3267 v3261
  let c1_i32_2249 : BitVec 32 := 1#32
  let v3269 : BitVec 1 := Scalar.cmpi .eq v3268 c1_i32_2249
  let c2_i32_2250 : BitVec 32 := 2#32
  let v3270 : BitVec 1 := Scalar.cmpi .eq v3268 c2_i32_2250
  let v3271 : BitVec 1 := Scalar.ori v3269 v3270
  let c1_i32_2251 : BitVec 32 := 1#32
  let c0_i32_2252 : BitVec 32 := 0#32
  let v3272 : BitVec 32 := Scalar.select v3271 c1_i32_2251 c0_i32_2252
  let c1_i32_2256 : BitVec 32 := 1#32
  let v3275 : BitVec 32 := Scalar.xori v3272 c1_i32_2256
  let c1_i32_2259 : BitVec 32 := 1#32
  let c2_i32_2253 : BitVec 32 := 2#32
  let v3273 : BitVec 1 := Scalar.cmpi .sge v3268 c2_i32_2253
  let c1_i32_2254 : BitVec 32 := 1#32
  let c0_i32_2255 : BitVec 32 := 0#32
  let v3274 : BitVec 32 := Scalar.select v3273 c1_i32_2254 c0_i32_2255
  let c1_i32_2257 : BitVec 32 := 1#32
  let v3276 : BitVec 32 := Scalar.xori v3274 c1_i32_2257
  let v3278 : BitVec 32 := Scalar.subi c1_i32_2259 v3276
  let v3279 : BitVec 32 := Scalar.muli v3275 v3278
  let c2_i32_2260 : BitVec 32 := 2#32
  let v3280 : BitVec 32 := Scalar.muli c2_i32_2260 v3275
  let v3281 : BitVec 32 := Scalar.muli v3280 v3276
  let v3282 : BitVec 32 := Scalar.addi v3279 v3281
  let c3_i32_2262 : BitVec 32 := 3#32
  let c1_i32_2261 : BitVec 32 := 1#32
  let v3283 : BitVec 32 := Scalar.subi c1_i32_2261 v3275
  let v3284 : BitVec 32 := Scalar.muli c3_i32_2262 v3283
  let v3285 : BitVec 32 := Scalar.muli v3284 v3276
  let v3286 : BitVec 32 := Scalar.addi v3282 v3285
  let v3288 : BitVec 32 := Scalar.addi v3287 v3286
  let c1_i32_2268 : BitVec 32 := 1#32
  let v3289 : BitVec 32 := Scalar.muli v3288 c1_i32_2268
  let v3290 : BitVec 32 := Scalar.addi c0_i32_2269 v3289
  v3290.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_2404 : BitVec 32 := 512#32
  let v3499 : BitVec 32 := Scalar.muli v2 c512_i32_2404
  let v3500 : Index := Scalar.indexCast v3499
  let c0_2405 : Index := 0#32
  ![v3500.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_2501 : BitVec 32 := 512#32
  let v3648 : BitVec 32 := Scalar.muli v2 c512_i32_2501
  let v3649 : Index := Scalar.indexCast v3648
  let c512_2502 : Index := 512#32
  ![v3649.toNat, 512]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Program.lean ====
/-
The kernel's body, written as the loop it is.

Each device multiplies its 512 rows of `x` by sixteen column chunks of `w`, chunk `t = 2j + h` being half `h` of the columns
owned by the device that differs from it by the `j`-th mask. Chunks 0 to 13 are sent to that device, chunks 14 and 15 are its
own. The program here has one definition per kind of step, with the chunk's number as a parameter, and the printed body equals
it by unfolding.
-/
module

public import proofs.«01_k».proof.Proof.Gen.KernelIdeal.Skeleton
public import proofs.«01_k».proof.Proof.Gen.KernelIdeal.Launch

@[expose] public section

set_option maxRecDepth 16384

noncomputable section

namespace Cert.Exchange

open Cert.KernelIdeal Cert.KernelIdeal.Gen
open Idealize.ShloMosaic Idealize.ShloMosaic.TcCoe Idealize.SL.Sem

variable {F : FTy → Type} [FloatOps F]

/-- The body's programs. -/
abbrev Step (F : FTy → Type) : Type → Type 1 := Prog (TpuEff nD τ sig (Elt F) Λ₀ .tc)

/-! ## The buffers -/

/-- The rows of `x` staged for the body. -/
abbrev xM : Memref sig .tc .vmem S512x4096 .f32 := Memref.whole cc0_stg0_0
/-- The whole of `w`. -/
abbrev wM : Memref sig .tc .hbm S4096x8192 .f32 := Memref.whole main_arg1
/-- The result's staging buffer. -/
abbrev oM : Memref sig .tc .vmem S4096x1024 .f32 := Memref.whole cc0_stg1_0
/-- The two slots the chunks of `w` are copied into. -/
abbrev bM : Memref sig .tc .vmem S2x4096x512 .f32 := Memref.whole cc0_scratch0
/-- The six slots the products to send are stored in. -/
abbrev pM : Memref sig .tc .vmem S6x512x512 .bf16 := Memref.whole cc0_scratch1
/-- The fourteen slots the other devices' products arrive in. -/
abbrev rM : Memref sig .tc .vmem S7x2x512x512 .bf16 := Memref.whole cc0_scratch2

/-! ## Indices: chunk `t` is half `t % 2` of round `t / 2` -/

/-- The slot of `w` chunk `t` uses. -/
abbrev par (t : ℕ) : Fin 2 := ⟨t % 2, Nat.mod_lt _ (by decide)⟩
/-- The product slot chunk `t` uses. -/
abbrev slotOf (t : ℕ) : Fin 6 := ⟨t % 6, Nat.mod_lt _ (by decide)⟩
/-- The round of a chunk. -/
abbrev roundOf (t : Fin 16) : Fin 8 := ⟨t.val / 2, by omega⟩
/-- The round of a chunk that is exchanged. -/
abbrev hop (s : Fin 14) : Fin 7 := ⟨s.val / 2, by omega⟩

theorem bRect_inb (i : Fin 2) : ∀ a, (![i.val, 0, 0] : Fin 3 → Nat) a + S1x4096x512.size a ≤ S2x4096x512.size a := by
  revert i; decide
/-- Slot `i` of the buffer for `w`. -/
abbrev bRect (i : Fin 2) : Rect S2x4096x512 :=
  Rect.unit (s := S2x4096x512) ![i.val, 0, 0] S1x4096x512.size (bRect_inb i)

theorem pRect_inb (k : Fin 6) : ∀ a, (![k.val, 0, 0] : Fin 3 → Nat) a + S1x512x512.size a ≤ S6x512x512.size a := by
  revert k; decide
/-- Product slot `k`. -/
abbrev pRect (k : Fin 6) : Rect S6x512x512 :=
  Rect.unit (s := S6x512x512) ![k.val, 0, 0] S1x512x512.size (pRect_inb k)

theorem rRect_inb (j : Fin 7) (h : Fin 2) :
    ∀ a, (![j.val, h.val, 0, 0] : Fin 4 → Nat) a + S1x1x512x512.size a ≤ S7x2x512x512.size a := by
  revert j h; decide
/-- The arrival slot of half `h` of round `j`. -/
abbrev rRect (j : Fin 7) (h : Fin 2) : Rect S7x2x512x512 :=
  Rect.unit (s := S7x2x512x512) ![j.val, h.val, 0, 0] S1x1x512x512.size (rRect_inb j h)

theorem semRect2_inb (i : Fin 2) : ∀ a, (![i.val] : Fin 1 → Nat) a + S1.size a ≤ S2.size a := by revert i; decide
theorem semRect14_inb (s : Fin 14) : ∀ a, (![s.val] : Fin 1 → Nat) a + S1.size a ≤ S14.size a := by revert s; decide

theorem pRect_words (k : Fin 6) : (pRect k).WholeWords (EltTy.packing .bf16) := by revert k; decide
theorem pRect_packed (k : Fin 6) : (pRect k).PackedRows (EltTy.packing .bf16) := by revert k; decide
theorem rRect_words (j : Fin 7) (h : Fin 2) : (rRect j h).WholeWords (EltTy.packing .bf16) := by revert j h; decide

/-- Slot `i` for `w` as a block. -/
abbrev bSlot (i : Fin 2) : Memref sig .tc .vmem S4096x512 .f32 :=
  (bM.slice (bRect i) (fun _ => rfl)).squeeze S4096x512 squeezes_S1x4096x512_S4096x512
/-- Product slot `k` as a block. -/
abbrev pSlot (k : Fin 6) : Memref sig .tc .vmem S512x512 .bf16 :=
  (pM.slice (pRect k) (fun _ => rfl)).squeeze S512x512 squeezes_S1x512x512_S512x512
/-- The arrival slot of half `h` of round `j` as a block. -/
abbrev rSlot (j : Fin 7) (h : Fin 2) : Memref sig .tc .vmem S512x512 .bf16 :=
  (rM.slice (rRect j h) (fun _ => rfl)).squeeze S512x512 squeezes_S1x1x512x512_S512x512

theorem pSlot_words (k : Fin 6) : (pSlot k).view.WordExact :=
  ((Memref.isWhole_whole cc0_scratch1).wordExact_slice rfl _ (pRect_words k)).reshape _ _
theorem rSlot_words (j : Fin 7) (h : Fin 2) : (rSlot j h).view.WordExact :=
  ((Memref.isWhole_whole cc0_scratch2).wordExact_slice rfl _ (rRect_words j h)).reshape _ _

/-- The semaphore of the copy into slot `i`. -/
abbrev wSem (i : Fin 2) : DmaSem sig :=
  ((cc0_scratch3.slice (Rect.unit (s := S2) ![i.val] S1.size (semRect2_inb i))).squeeze S_ squeezes_S1_S_).sem
/-- The semaphore telling that chunk `s` has left. -/
abbrev sSem (s : Fin 14) : DmaSem sig :=
  ((cc0_scratch4.slice (Rect.unit (s := S14) ![s.val] S1.size (semRect14_inb s))).squeeze S_ squeezes_S1_S_).sem
/-- The semaphore telling that chunk `s` has arrived. -/
abbrev rSem (s : Fin 14) : DmaSem sig :=
  ((cc0_scratch5.slice (Rect.unit (s := S14) ![s.val] S1.size (semRect14_inb s))).squeeze S_ squeezes_S1_S_).sem
/-- The barrier semaphore. -/
abbrev bSem : Sem sig := (SemArray.scalar (sig.barrier 0 rfl) : Sems sig S_).sem

/-! ## Columns, rows and neighbours -/

/-- The bits of the masks 1, 2, 4, 3, 6, 5, 7, 0. -/
abbrev bit0 : Fin 8 → Fin 2 := ![1, 0, 0, 1, 0, 1, 1, 0]
abbrev bit1 : Fin 8 → Fin 2 := ![0, 1, 0, 1, 1, 0, 1, 0]
abbrev bit2 : Fin 8 → Fin 2 := ![0, 0, 1, 0, 1, 1, 1, 0]

/-- Where chunk `t`'s columns of `w` begin, on device `c`. -/
abbrev wOff (c : Dev nD) (t : Fin 16) : Fin 2 → Nat :=
  k0_off1 c (BitVec.ofNat 32 (bit2 (roundOf t)).val) (BitVec.ofNat 32 (bit0 (roundOf t)).val)
    (BitVec.ofNat 32 (bit1 (roundOf t)).val) (BitVec.ofNat 32 (512 * (par t.val).val))
theorem wOff_inb (c : Dev nD) (t : Fin 16) : ∀ a, wOff c t a + S4096x512.size a ≤ S4096x8192.size a :=
  k0_off1_inb c _ _ _ _
/-- Chunk `t`'s columns of `w`. -/
abbrev wCols (c : Dev nD) (t : Fin 16) : Memref sig .tc .hbm S4096x512 .f32 :=
  wM.slice (Rect.unit (s := S4096x8192) (wOff c t) S4096x512.size (wOff_inb c t)) (fun _ => rfl)

/-- Where the block received as chunk `s` belongs in the result. -/
abbrev oOff (c : Dev nD) (s : Fin 14) : Fin 2 → Nat :=
  if s.val % 2 = 0 then k0_off2 c (k0_off2_at (hop s)).1 (k0_off2_at (hop s)).2.1 (k0_off2_at (hop s)).2.2
  else k0_off3 c (k0_off3_at (hop s)).1 (k0_off3_at (hop s)).2.1 (k0_off3_at (hop s)).2.2
theorem oOff_inb (c : Dev nD) (s : Fin 14) : ∀ a, oOff c s a + S512x512.size a ≤ S4096x1024.size a := by
  unfold oOff; split
  · exact k0_off2_inb c _
  · exact k0_off3_inb c _
/-- Where the device's own chunk `t` belongs in the result. -/
abbrev ownOff (c : Dev nD) (t : Fin 16) : Fin 2 → Nat := if t.val % 2 = 0 then k0_off4 c else k0_off5 c
theorem ownOff_inb (c : Dev nD) (t : Fin 16) : ∀ a, ownOff c t a + S512x512.size a ≤ S4096x1024.size a := by
  unfold ownOff; split
  · exact k0_off4_inb c
  · exact k0_off5_inb c

/-- The device chunk `s` is sent to. -/
abbrev sendTo (c : Dev nD) : Fin 14 → Dev nD
  | 0 => ⟨k0_dev8 c, k0_dev8_lt c⟩ | 1 => ⟨k0_dev9 c, k0_dev9_lt c⟩ | 2 => ⟨k0_dev10 c, k0_dev10_lt c⟩
  | 3 => ⟨k0_dev11 c, k0_dev11_lt c⟩ | 4 => ⟨k0_dev12 c, k0_dev12_lt c⟩ | 5 => ⟨k0_dev13 c, k0_dev13_lt c⟩
  | 6 => ⟨k0_dev14 c, k0_dev14_lt c⟩ | 7 => ⟨k0_dev15 c, k0_dev15_lt c⟩ | 8 => ⟨k0_dev16 c, k0_dev16_lt c⟩
  | 9 => ⟨k0_dev17 c, k0_dev17_lt c⟩ | 10 => ⟨k0_dev18 c, k0_dev18_lt c⟩ | 11 => ⟨k0_dev19 c, k0_dev19_lt c⟩
  | 12 => ⟨k0_dev20 c, k0_dev20_lt c⟩ | 13 => ⟨k0_dev21 c, k0_dev21_lt c⟩
/-- The devices signalled at the start. -/
abbrev signalTo (c : Dev nD) : Fin 7 → Dev nD
  | 0 => ⟨k0_dev1 c, k0_dev1_lt c⟩ | 1 => ⟨k0_dev2 c, k0_dev2_lt c⟩ | 2 => ⟨k0_dev3 c, k0_dev3_lt c⟩
  | 3 => ⟨k0_dev4 c, k0_dev4_lt c⟩ | 4 => ⟨k0_dev5 c, k0_dev5_lt c⟩ | 5 => ⟨k0_dev6 c, k0_dev6_lt c⟩
  | 6 => ⟨k0_dev7 c, k0_dev7_lt c⟩

/-! ## The steps -/

/-- Start copying chunk `t`'s columns of `w` into its slot. -/
abbrev fetch (c : Dev nD) (t : Fin 16) : Step F PUnit.{1} :=
  Prog.lift (.enqueueDma (wCols c t) (.here (bSlot (par t.val))) (.dma (wSem (par t.val)))
    (View.wordExact_bits rfl) ((View.wordExact_bits rfl).reshape _ _) ⟨Or.inl rfl, trivial⟩)
/-- Wait for that copy. -/
abbrev fetched (c : Dev nD) (t : Fin 16) : Step F PUnit.{1} :=
  Prog.lift (.waitDma2 (wSem (par t.val)) (wCols c t) (bSlot (par t.val)) (View.wordExact_bits rfl)
    ((View.wordExact_bits rfl).reshape _ _))
/-- Read the device's rows of `x`. -/
abbrev readX : Step F (Vec F S512x4096 .f32) :=
  Prog.lift (.load xM (Rect.unit (s := S512x4096) ![0, 0] S512x4096.size inb_S512x4096_S512x4096_0_0).toLoadRect
    (View.loadsAt_vmem h_S512x4096))
/-- Read chunk `t`'s slot of `w`. -/
abbrev readW (i : Fin 2) : Step F (Vec F S1x4096x512 .f32) :=
  Prog.lift (.load bM (bRect i).toLoadRect (View.loadsAt_vmem h_S1x4096x512))
/-- Wait until chunk `s` has left its product slot. -/
abbrev left (s : Fin 14) : Step F PUnit.{1} :=
  Prog.lift (.waitDma2 (sSem s) (rSlot 0 0) (pSlot (slotOf s.val)) (rSlot_words 0 0) (pSlot_words _))
/-- Store a product, rounded for the wire, in slot `k`. -/
abbrev storeP (k : Fin 6) (v : FVec F S1x512x512 .bf16) : Step F PUnit.{1} := do
  let _ : Vec F S1x512x512 .bf16 ← Prog.lift (.load pM (pRect k).toLoadRect (View.loadsAt_vmem h_S1x512x512))
  Prog.lift (.store pM (pRect k) v Finset.univ
    (View.stores_vmem h_S1x512x512 ((Memref.isWhole_whole cc0_scratch1).storeExact_slice rfl _ (pRect_packed k)) (fun _ => rfl))
    (.inl rfl))
/-- Send chunk `s` to its device. -/
abbrev send (c : Dev nD) (s : Fin 14) : Step F PUnit.{1} :=
  Prog.lift (.enqueueDma (pSlot (slotOf s.val)) (.remote (Dev.tc (sendTo c s)) (rSlot (hop s) (par s.val)) (.dma (sSem s)))
    (.dma (rSem s)) (pSlot_words _) (rSlot_words _ _) ⟨⟨rfl, Or.inl rfl⟩, trivial⟩)
/-- Store a block of the result. -/
abbrev storeO (off : Fin 2 → Nat) (inb : ∀ a, off a + S512x512.size a ≤ S4096x1024.size a) (v : FVec F S512x512 .f32) : Step F PUnit.{1} := do
  let _ : Vec F S512x512 .f32 ← Prog.lift (.load oM (Rect.unit (s := S4096x1024) off S512x512.size inb).toLoadRect
    (View.loadsAt_vmem h_S512x512))
  Prog.lift (.store oM (Rect.unit (s := S4096x1024) off S512x512.size inb) v Finset.univ
    (View.stores_vmem_bits_univ h_S512x512 rfl) (.inl rfl))
/-- Take in the block that arrived as chunk `s`: wait for it, apply the activation, store the result. -/
abbrev receive (c : Dev nD) (s : Fin 14) : Step F PUnit.{1} := do
  Prog.lift (.waitDma2 (rSem s) (pSlot (slotOf s.val)) (rSlot (hop s) (par s.val)) (pSlot_words _) (rSlot_words _ _))
  let r : Vec F S1x1x512x512 .bf16 ← Prog.lift (.load rM (rRect (hop s) (par s.val)).toLoadRect (View.loadsAt_vmem h_S1x1x512x512))
  storeO (oOff c s) (oOff_inb c s) (k0_pay16 r)

/-- The wait for the chunk of six turns ago, if there is one. -/
def leave (t : Fin 16) (h : t.val < 14) : Step F PUnit.{1} := if 6 ≤ t.val then left ⟨t.val - 6, by omega⟩ else pure ⟨⟩
/-- The work on chunk `t` once its columns are there. -/
def work (c : Dev nD) (t : Fin 16) : Step F PUnit.{1} := do
  let x ← readX
  let w ← readW (par t.val)
  if h : t.val < 14 then
    leave t h
    storeP (slotOf t.val) (k0_pay1 x w)
    send c ⟨t.val, h⟩
  else
    storeO (ownOff c t) (ownOff_inb c t) (k0_pay45 x w)

/-- The fetch of the chunk after `t`, if there is one. -/
def prefetch (c : Dev nD) (t : Fin 16) : Step F PUnit.{1} := if h : t.val + 1 < 16 then fetch c ⟨t.val + 1, h⟩ else pure ⟨⟩
/-- The chunk of four turns ago is taken in, if there is one. -/
def take (c : Dev nD) (t : Fin 16) : Step F PUnit.{1} := if 4 ≤ t.val then receive c ⟨t.val - 4, by omega⟩ else pure ⟨⟩
/-- One turn of the loop: fetch the next chunk, work on this one, take in the block of four turns ago. -/
def turn (c : Dev nD) (t : Fin 16) : Step F PUnit.{1} := do
  prefetch c t
  fetched c t
  work c t
  take c t

/-- Turn `t`, if there is one. -/
def turnAt (c : Dev nD) (t : ℕ) : Step F PUnit.{1} := if h : t < 16 then turn c ⟨t, h⟩ else pure ⟨⟩
/-- Turns `t, …, t + n - 1`. -/
def turns (c : Dev nD) : ℕ → ℕ → Step F PUnit.{1}
  | 0, _ => pure ⟨⟩
  | n + 1, t => do
    turnAt c t
    turns c n (t + 1)

/-- Signal `i`, if there is one. -/
def signalAt (c : Dev nD) (i : ℕ) : Step F PUnit.{1} := if h : i < 7 then semSignalWord (signalTo c ⟨i, h⟩) bSem 1#32 else pure ⟨⟩
/-- Signal the others, as many as are still to be signalled. -/
def signals (c : Dev nD) : ℕ → ℕ → Step F PUnit.{1}
  | 0, _ => pure ⟨⟩
  | n + 1, i => do
    signalAt c i
    signals c n (i + 1)

/-- The wait for chunk `s` to leave, if there is one. -/
def leftAt (s : ℕ) : Step F PUnit.{1} := if h : s < 14 then left ⟨s, h⟩ else pure ⟨⟩
/-- Wait until chunks `s, …, s + n - 1` have left. -/
def leaves : ℕ → ℕ → Step F PUnit.{1}
  | 0, _ => pure ⟨⟩
  | n + 1, s => do
    leftAt s
    leaves n (s + 1)

/-- The body. -/
def flow : Step F PUnit.{1} := do
  let c : Dev nD ← Prog.lift .deviceId
  fetch c 0
  signals c 7 0
  semWaitWord bSem 7#32
  turns c 16 0
  receive c 12
  receive c 13
  leaves 6 8

set_option maxHeartbeats 0 in
/-- The printed body is the loop. -/
theorem body_eq_flow : cc0_body xM (Memref.isWhole_whole _) wM (Memref.isWhole_whole _) oM (Memref.isWhole_whole _)
    bM (Memref.isWhole_whole _) pM (Memref.isWhole_whole _) rM (Memref.isWhole_whole _) cc0_scratch3 cc0_scratch4 cc0_scratch5
    = flow (F := F) := by
  rfl

end Cert.Exchange

end
-- ==== Proof.Protocol.lean ====
/-
The protocol of the exchange: who exchanges with whom, what every semaphore's unit stands for, and in which order the
semaphores may be waited on.

Round `j` (0 to 6) pairs the devices: the partner of `c` is `peer c j`, whose own partner in that round is `c`. In round `j` a
device sends its partner two blocks, chunks `2j` and `2j + 1`. A device's barrier cell takes one unit from every other device, and
with it the arrival slots of that device this one will write. A send cell takes the block's credit when the block has left, and
gives the product slot back; a receive cell takes it when the block has arrived, and gives the arrival slot holding it.
-/
module

public import proofs.«01_k».proof.Proof.Program
public import Idealize.ShloMosaic.Lib.Pipeline.Launch
public import Idealize.ShloMosaic.Lib.Pipeline.Kit
public import Idealize.ShloMosaic.Lib.Transfers
public import Idealize.ShloMosaic.Lib.ViewIndex
public import Idealize.ShloMosaic.Lib.Tactic

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state -/

/-- Duty names: a barrier cell has seven duties, the other cells one. -/
abbrev UB : Type := URounds (GSem nD τ sig) (Fin 7)
/-- The pipeline's rounds, the exchange's rounds, and the counters of the copies of `w`. -/
abbrev UU : Type := UR sig nD τ × (UB × Counters)

local notation "𝕄" => MT nD τ sig Unit (Elt F) ℕ UU ℕ

/-- The pipeline's part of the ghost state. -/
abbrev EP : Emb (UR sig nD τ) (MT nD τ sig Unit (Elt F) ℕ UU ℕ) := embL
/-- The exchange's part. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance : (ER (F := F)).LandsIn (upEmb : UEmb _ 𝕄) := by unfold ER; infer_instance
/-- The counters' part. -/
abbrev EC : UEmb Counters (MT nD τ sig Unit (Elt F) ℕ UU ℕ) := countersEmb

/-! ## Who exchanges with whom -/

/-- Where a device stands in the cube whose corners differ in one bit when they are neighbours; its own inverse. -/
abbrev place : Fin 8 → Fin 8 := ![0, 1, 3, 2, 4, 5, 7, 6]
/-- The bits in which round `j`'s partners differ. -/
abbrev mask : Fin 8 → Fin 8 := ![1, 2, 4, 3, 6, 5, 7, 0]
/-- The device `c` exchanges with in round `j`; round 7 is the device itself. -/
def peer (c : Dev nD) (j : Fin 8) : Dev nD := place (place c ^^^ mask j)
/-- The round of chunk `s`, among all eight. -/
abbrev rd (s : Fin 14) : Fin 8 := ⟨s.val / 2, by omega⟩
/-- The device chunk `s` is exchanged with. -/
abbrev mate (c : Dev nD) (s : Fin 14) : Dev nD := peer c (rd s)

theorem peer_peer (c : Dev nD) (j : Fin 8) : peer (peer c j) j = c := by revert c j; decide +kernel
theorem sendTo_eq (c : Dev nD) (s : Fin 14) : sendTo c s = mate c s := by revert c s; decide +kernel
theorem mate_mate (c : Dev nD) (s : Fin 14) : mate (mate c s) s = c := peer_peer c _

/-- The device whose `i`-th signal goes to `c`. -/
def signalFrom (c : Dev nD) (i : Fin 7) : Dev nD := ⟨(c.val + 7 - i.val) % 8, Nat.mod_lt _ (by decide)⟩
theorem signalFrom_signalTo (c : Dev nD) (i : Fin 7) : signalFrom (signalTo c i) i = c := by revert c i; decide +kernel
theorem signalTo_signalFrom (c : Dev nD) (i : Fin 7) : signalTo (signalFrom c i) i = c := by revert c i; decide +kernel

/-- Every partner is signalled exactly once. -/
theorem signals_mate (c : Dev nD) (s : Fin 14) : ∃ i, ∀ i', mate c s = signalTo c i' ↔ i' = i := by
  revert c s; decide +kernel
/-- Every partner signals exactly once. -/
theorem mate_signals (c : Dev nD) (s : Fin 14) : ∃ i, ∀ i', mate (signalFrom c i') s = c ↔ i' = i := by
  revert c s; decide +kernel
theorem mate_signalFrom {c : Dev nD} {s : Fin 14} {i : Fin 7} (h : mate (signalFrom c i) s = c) : signalFrom c i = mate c s := by
  rw [← mate_mate (signalFrom c i) s, h]

/-- The devices signalled are distinct. -/
def signalling (i : Fin 7) : Dev nD ≃ Dev nD :=
  ⟨fun c => signalTo c i, fun c => signalFrom c i, fun c => signalFrom_signalTo c i, fun c => signalTo_signalFrom c i⟩
/-- The partners of one round are distinct. -/
def mating (s : Fin 14) : Dev nD ≃ Dev nD := ⟨fun c => mate c s, fun c => mate c s, fun c => mate_mate c s, fun c => mate_mate c s⟩

/-! ## The cells -/

/-- The exchange's cells on one device: the barrier's, the fourteen send cells, the fourteen receive cells. -/
abbrev CK : Type := Unit ⊕ (Fin 14 ⊕ Fin 14)
/-- Their semaphores. -/
abbrev csem : CK → SemLoc sig
  | .inl _ => .reg bSem
  | .inr (.inl s) => .dma (sSem s)
  | .inr (.inr s) => .dma (rSem s)
/-- The cell `k` of device `c`. -/
abbrev kcell (ck : Dev nD × CK) : GSem nD τ sig := ((ck.1 : Thread nD τ), csem ck.2)
/-- The barrier cell of `c`. -/
abbrev barCell (c : Dev nD) : GSem nD τ sig := kcell (c, .inl ())
/-- The send cell of chunk `s` on `c`. -/
abbrev sndCell (c : Dev nD) (s : Fin 14) : GSem nD τ sig := kcell (c, .inr (.inl s))
/-- The receive cell of chunk `s` on `c`. -/
abbrev rcvCell (c : Dev nD) (s : Fin 14) : GSem nD τ sig := kcell (c, .inr (.inr s))

/-- Which of the exchange's semaphores a semaphore is. -/
def role : SemLoc sig → Option CK
  | .reg _ => some (.inl ())
  | .dma q =>
    if h : 4 ≤ q.val ∧ q.val < 18 then some (.inr (.inl ⟨q.val - 4, by omega⟩))
    else if h : 18 ≤ q.val ∧ q.val < 32 then some (.inr (.inr ⟨q.val - 18, by omega⟩)) else none

theorem role_csem (k : CK) : role (csem k) = some k := by
  rcases k with ⟨⟩ | s | s
  · rfl
  · revert s; decide
  · revert s; decide
theorem role_wSem (i : Fin 2) : role (.dma (wSem i)) = none := by revert i; decide

theorem csem_injective : Function.Injective csem := fun k k' h =>
  Option.some.inj ((role_csem k).symm.trans ((congrArg role h).trans (role_csem k')))
theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The credit of a block sent. -/
abbrev N : ℕ := (rSlot 0 0).view.dmaCredit
theorem N_pos : 0 < N := View.dmaCredit_pos _ (by decide)

/-! ## Contents -/

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-- Device `c`'s rows of `x`, as the launch stages them. -/
def xstg (c : Dev nD) : (cc0_stg0_0 : Ref sig .tc).ty.Contents (Elt F) :=
  (win0_0.blk (0 : Fin 1)).view.read (Elt F) (m ((c : Thread nD τ).loc main_arg0))
/-- Device `c`'s copy of `w`. -/
abbrev wbuf (c : Dev nD) : Buf (Elt F) ((c : Thread nD τ).loc main_arg1) := m ((c : Thread nD τ).loc main_arg1)

/-- Chunk `t`'s columns of `w`, in the form a load from their slot gives them. -/
def chunk (c : Dev nD) (t : Fin 16) : Vec F S1x4096x512 .f32 :=
  fun i => (wCols c t).view.read (Elt F) (wbuf m c) (Shape.reshapeEquiv squeezes_S1x4096x512_S4096x512.numel_eq.symm i)
/-- The block device `c` sends as chunk `s`. -/
def sent (c : Dev nD) (s : Fin 14) : Vec F S512x512 .bf16 :=
  fun i => k0_pay1 (xstg m c) (chunk m c ⟨s.val, by omega⟩) (Shape.reshapeEquiv squeezes_S1x512x512_S512x512.numel_eq i)
/-- The block device `c` receives as chunk `s`, in the form a load from its slot gives it. -/
def arrived (c : Dev nD) (s : Fin 14) : Vec F S1x1x512x512 .bf16 :=
  fun i => sent m (mate c s) s (Shape.reshapeEquiv squeezes_S1x1x512x512_S512x512.numel_eq.symm i)
/-- The block of the result that chunk `u` makes on device `c`. -/
def made (c : Dev nD) (u : Fin 16) : Vec F S512x512 .f32 :=
  if h : u.val < 14 then k0_pay16 (arrived m c ⟨u.val, h⟩) else k0_pay45 (xstg m c) (chunk m c u)

/-! ## What the cells hand over -/

/-- Product slot `k` of device `c`, with contents `f`. -/
def pPts (c : Dev nD) (k : Fin 6) (f : Buf (Elt F) ((pSlot k).view.loc (c : Thread nD τ))) : sProp 𝕄 :=
  (pSlot k).view.loc (c : Thread nD τ) ↦[(pSlot k).view.set]{fullShare} f
/-- The arrival slot of chunk `s` on device `c`, with contents `f`. -/
def rPts (c : Dev nD) (s : Fin 14) (f : Buf (Elt F) ((rSlot (hop s) (par s.val)).view.loc (c : Thread nD τ))) : sProp 𝕄 :=
  (rSlot (hop s) (par s.val)).view.loc (c : Thread nD τ) ↦[(rSlot (hop s) (par s.val)).view.set]{fullShare} f
/-- A product slot with whatever it holds. -/
def pAny (c : Dev nD) (k : Fin 6) : sProp 𝕄 := iprop(∃ f, pPts c k f)
/-- An arrival slot with whatever it holds. -/
def rAny (c : Dev nD) (s : Fin 14) : sProp 𝕄 := iprop(∃ f, rPts c s f)
/-- The arrival slot of chunk `s` holding the block that was sent. -/
def rHas (c : Dev nD) (s : Fin 14) : sProp 𝕄 :=
  iprop(∃ f, ⌜(rSlot (hop s) (par s.val)).view.read (Elt F) f = sent m (mate c s) s⌝ ∗ rPts c s f)
/-- The arrival slots of device `d` that device `e` writes. -/
def lends (d e : Dev nD) : sProp 𝕄 := bigSep Finset.univ fun s : Fin 14 => if mate d s = e then rAny d s else iprop(emp)

omit [FloatOps F] in
instance pAny_storable (c : Dev nD) (k : Fin 6) : BI.Storable (upEmb : UEmb _ 𝕄) (pAny (F := F) c k) := by
  unfold pAny pPts; infer_instance
omit [FloatOps F] in
instance rAny_storable (c : Dev nD) (s : Fin 14) : BI.Storable (upEmb : UEmb _ 𝕄) (rAny (F := F) c s) := by
  unfold rAny rPts; infer_instance
instance rHas_storable (c : Dev nD) (s : Fin 14) : BI.Storable (upEmb : UEmb _ 𝕄) (rHas m c s) := by
  unfold rHas rPts; infer_instance
omit [FloatOps F] in
instance lends_storable (d e : Dev nD) : BI.Storable (upEmb : UEmb _ 𝕄) (lends (F := F) d e) := by
  unfold lends
  have : ∀ s : Fin 14, BI.Storable (upEmb : UEmb _ 𝕄) (if mate d s = e then rAny (F := F) d s else iprop(emp)) := fun s => by
    split <;> infer_instance
  infer_instance

/-- What a unit of cell `k` on device `c` hands over. -/
def pays (c : Dev nD) (d : Fin 7) : Option CK → sProp 𝕄
  | some (.inl _) => lends (signalFrom c d) c
  | some (.inr (.inl s)) => pAny c (slotOf s.val)
  | some (.inr (.inr s)) => rHas m c s
  | none => iprop(emp)
instance pays_storable (c : Dev nD) (d : Fin 7) (k : Option CK) : BI.Storable (upEmb : UEmb _ 𝕄) (pays m c d k) := by
  rcases k with _ | _ | _ | _ <;> (unfold pays; infer_instance)

/-- The duties of cell `k`. -/
def dutiesOf : Option CK → Finset (Fin 7)
  | some (.inl _) => Finset.univ
  | some (.inr _) => {0}
  | none => ∅
/-- The units of one duty of cell `k`. -/
def unitsOf : Option CK → ℕ
  | some (.inl _) => 1
  | _ => N
theorem unitsOf_pos (k : Option CK) : 0 < unitsOf k := by
  rcases k with _ | _ | _
  · exact N_pos
  · exact Nat.one_pos
  · exact N_pos

/-- The schedule: every cell goes one round. -/
def Rd : Rounds.Schedule (GSem nD τ sig) (Fin 7) 𝕄 where
  duties g r := if r = 0 ∧ g.1.2 = .tc then dutiesOf (role g.2) else ∅
  unitless _ := False
  amount g _ _ := unitsOf (role g.2)
  payload g _ d := pays m g.1.1 d (role g.2)
  amount_pos _ _ _ _ := unitsOf_pos _

instance Rd_payload_storable (g : GSem nD τ sig) (r : ℕ) (d : Fin 7) :
    BI.Storable (upEmb : UEmb _ 𝕄) ((Rd (F := F) m).payload g r d) := pays_storable m _ _ _

section Sched
variable (c : Dev nD) (k : CK) (s : Fin 14)

theorem duties_eq : (Rd (F := F) m).duties (kcell (c, k)) 0 = dutiesOf (some k) := by
  dsimp only [Rd]
  rw [if_pos ⟨rfl, rfl⟩, role_csem]
theorem duties_later (g : GSem nD τ sig) : ∀ r, 1 ≤ r → (Rd (F := F) m).duties g r = ∅ := fun r hr =>
  if_neg fun h => by omega
theorem amount_eq (d : Fin 7) : (Rd (F := F) m).amount (kcell (c, k)) 0 d = unitsOf (some k) := by
  show unitsOf (role (csem k)) = _; rw [role_csem]
theorem payload_eq (d : Fin 7) : (Rd (F := F) m).payload (kcell (c, k)) 0 d = pays m c d (some k) := by
  show pays m c d (role (csem k)) = _; rw [role_csem]

theorem expect_bar : (Rd (F := F) m).expect (barCell c) 0 = 7 := by
  unfold Schedule.expect Schedule.amountOf
  rw [duties_eq, Finset.sum_congr rfl fun d _ => amount_eq m c (.inl ()) d]; rfl
theorem expect_one (k : Fin 14 ⊕ Fin 14) : (Rd (F := F) m).expect (kcell (c, .inr k)) 0 = N := by
  unfold Schedule.expect Schedule.amountOf
  rw [duties_eq, Finset.sum_congr rfl fun d _ => amount_eq m c (.inr k) d]; exact Finset.sum_singleton _ _

/-- The barrier's round hands over, for each device that signals, the slots it lends. -/
theorem rest_bar : bigSep ((Rd (F := F) m).duties (barCell c) 0 \ ∅) (fun d => (Rd (F := F) m).payload (barCell c) 0 d)
    = bigSep Finset.univ fun d : Fin 7 => lends (F := F) (signalFrom c d) c := by
  rw [Finset.sdiff_empty, duties_eq]; exact bigSep_congr fun d _ => payload_eq m c _ d
/-- The round of another cell hands over its one payload. -/
theorem rest_one (k : Fin 14 ⊕ Fin 14) :
    bigSep ((Rd (F := F) m).duties (kcell (c, .inr k)) 0 \ ∅) (fun d => (Rd (F := F) m).payload (kcell (c, .inr k)) 0 d)
      = pays m c 0 (some (.inr k)) := by
  rw [Finset.sdiff_empty, duties_eq]; exact (bigSep_singleton (i := (0 : Fin 7))).trans (payload_eq m c _ 0)

end Sched

/-! ## The slots lent, dealt to the signals and gathered from them -/

omit [FloatOps F] in
/-- A family that is nothing off one index is its member there. -/
theorem bigSep_only {I : Type} [Fintype I] [DecidableEq I] (p : I → Prop) [DecidablePred p] (X : sProp 𝕄)
    (h : ∃ i, ∀ j, p j ↔ j = i) : (bigSep Finset.univ fun j => if p j then X else iprop(emp)) = X := by
  obtain ⟨i, hi⟩ := h
  have e : Finset.univ.filter p = {i} := by ext j; simp [hi]
  exact (bigSep_filter Finset.univ p fun _ => X).symm.trans (by rw [e, bigSep_singleton])

omit [FloatOps F] in
/-- A device's arrival slots are what its seven signals hand over. -/
theorem lend_all (c : Dev nD) : (bigSep Finset.univ fun s : Fin 14 => rAny (F := F) c s)
    = bigSep Finset.univ fun i : Fin 7 => lends (F := F) c (signalTo c i) := by
  unfold lends
  rw [bigSep_univ_comm]
  exact bigSep_congr fun s _ => (bigSep_only (fun i => mate c s = signalTo c i) (rAny c s) (signals_mate c s)).symm

omit [FloatOps F] in
/-- The slots a device gets with its seven units are its partners', one for each block it sends. -/
theorem borrow_all (c : Dev nD) : (bigSep Finset.univ fun i : Fin 7 => lends (F := F) (signalFrom c i) c)
    = bigSep Finset.univ fun s : Fin 14 => rAny (F := F) (mate c s) s := by
  unfold lends
  rw [bigSep_univ_comm]
  refine bigSep_congr fun s _ => (bigSep_congr fun i _ => ?_).trans
    (bigSep_only (fun i => mate (signalFrom c i) s = c) (rAny (mate c s) s) (mate_signals c s))
  by_cases h : mate (signalFrom c i) s = c
  · rw [if_pos h, if_pos h, mate_signalFrom h]
  · rw [if_neg h, if_neg h]

/-! ## What a device owes, and the order of waits -/

/-- The units device `c` owes once `n` devices are signalled and `t` blocks sent. -/
def O (c : Dev nD) (n t : ℕ) : CellTallies nD τ sig Unit :=
  (∑ s ∈ Finset.univ.filter (fun s : Fin 14 => t ≤ s.val), tallyAt (rcvCell (mate c s) s) () N)
    + ∑ i ∈ Finset.univ.filter (fun i : Fin 7 => n ≤ i.val), tallyAt (barCell (signalTo c i)) () 1

theorem filter_step {n t : ℕ} (h : t < n) :
    Finset.univ.filter (fun s : Fin n => t ≤ s.val) = insert ⟨t, h⟩ (Finset.univ.filter fun s : Fin n => t + 1 ≤ s.val) := by
  ext s
  simp only [Finset.mem_filter, Finset.mem_univ, true_and, Finset.mem_insert, Fin.ext_iff]
  omega
theorem filter_step_notMem {n t : ℕ} (h : t < n) :
    (⟨t, h⟩ : Fin n) ∉ (Finset.univ.filter fun s : Fin n => t + 1 ≤ s.val) := by
  simp only [Finset.mem_filter, Finset.mem_univ, true_and]; omega

/-- One more signal. -/
theorem O_signal (c : Dev nD) {n : ℕ} (h : n < 7) (t : ℕ) : O c n t = O c (n + 1) t + tallyAt (barCell (signalTo c ⟨n, h⟩)) () 1 := by
  unfold O
  rw [filter_step h, Finset.sum_insert (filter_step_notMem h), add_assoc, add_comm (tallyAt _ _ _)]
/-- One more block. -/
theorem O_send (c : Dev nD) (n : ℕ) {t : ℕ} (h : t < 14) : O c n t = O c n (t + 1) + tallyAt (rcvCell (mate c ⟨t, h⟩) ⟨t, h⟩) () N := by
  unfold O
  rw [filter_step h, Finset.sum_insert (filter_step_notMem h), add_comm (tallyAt _ _ _), add_assoc, add_assoc, add_comm (tallyAt _ _ _)]
theorem O_end (c : Dev nD) : O c 7 14 = 0 := by
  unfold O
  rw [Finset.filter_false_of_mem (fun s _ => by omega), Finset.filter_false_of_mem (fun s _ => by omega), Finset.sum_empty, Finset.sum_empty, add_zero]

theorem O_pos {c : Dev nD} {n t : ℕ} {g : GSem nD τ sig} {u : Unit} (h : 0 < O c n t g u) :
    (∃ s : Fin 14, t ≤ s.val ∧ g = rcvCell (mate c s) s) ∨ ∃ i : Fin 7, n ≤ i.val ∧ g = barCell (signalTo c i) := by
  unfold O at h
  rw [Pi.add_apply, Finsupp.add_apply, Finset.sum_apply, Finset.sum_apply, Finsupp.finset_sum_apply, Finsupp.finset_sum_apply] at h
  rcases Nat.add_pos_iff_pos_or_pos.mp h with h | h
  · obtain ⟨s, hs, h⟩ := Finset.exists_ne_zero_of_sum_ne_zero h.ne'
    rw [tallyAt_apply] at h
    exact Or.inl ⟨s, (Finset.mem_filter.mp hs).2, (of_not_not fun hn => h (if_neg hn)).1⟩
  · obtain ⟨i, hi, h⟩ := Finset.exists_ne_zero_of_sum_ne_zero h.ne'
    rw [tallyAt_apply] at h
    exact Or.inr ⟨i, (Finset.mem_filter.mp hi).2, (of_not_not fun hn => h (if_neg hn)).1⟩

/-- The only index of a TensorCore's cells. -/
def L (g : GSem nD τ sig) : Finset Unit := if g.1.2 = .tc then {()} else ∅
/-- The level of a cell: the barrier's 1, then the receive cells in the order of the chunks; every other cell below. -/
def level : Option CK → ℕ
  | some (.inl _) => 1
  | some (.inr (.inr s)) => s.val + 2
  | _ => 0
def lv (g : GSem nD τ sig) (_ : Unit) : ℕ := level (role g.2)

theorem lv_kcell (c : Dev nD) (k : CK) : lv (kcell (c, k)) () = level (some k) := by unfold lv; rw [role_csem]
theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- A device may wait on a cell below everything it still owes: with `n` signals and `t` blocks done, below level 1 at any time,
    and below `t + 2` once all are signalled. -/
theorem mayWait (c : Dev nD) (sm : SemLoc sig) (n t : ℕ) (h : level (role sm) = 0 ∨ (7 ≤ n ∧ level (role sm) < t + 2)) :
    (levAts L lv : sProp 𝕄) ⊢ MayWait (c : Thread nD τ) sm () (O c n t) :=
  MayOwe.of_cut (L := L) (lev := lv) (level (role sm))
    (fun p hp => by rw [Finset.mem_singleton.mp hp, L_tc]; exact Finset.mem_singleton_self _)
    (fun g u hg => by rcases O_pos hg with ⟨s, _, rfl⟩ | ⟨i, _, rfl⟩ <;> exact Finset.mem_singleton_self _)
    (fun p hp => by rw [Finset.mem_singleton.mp hp]; exact le_refl _)
    (fun g u hg => by
      rcases O_pos hg with ⟨s, hs, rfl⟩ | ⟨i, hi, rfl⟩
      · rw [lv_kcell]; have : level (some (.inr (.inr s))) = s.val + 2 := rfl
        omega
      · rw [lv_kcell]; have : level (some (.inl ())) = 1 := rfl
        omega)

end Cert.Exchange

end
-- ==== Proof.Steps.lean ====
/-
One rule for every kind of step of the body: what the step needs, and what it leaves.
-/
module

public import proofs.«01_k».proof.Proof.Protocol

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-- No loop of the body needs a measure. -/
abbrev 𝒱₀ : Variants := Variants.none

variable (m : (ℓ : Loc nD τ sig) → Buf (Elt F) ℓ)

/-- The body's weakest precondition on device `c`. -/
abbrev wpB (c : Dev nD) {α : Type} (p : Step F α) (Q : α → sProp 𝕄) : sProp 𝕄 :=
  wp frame (wpE (defs₀ (F := F)) 𝒱₀ (c : Thread nD τ) none) Set.univ p Q

/-! ## Families with one member changed -/

omit [FloatOps F] in
/-- Take one member out of a family, and put another in its place. -/
theorem bigSep_swap {I : Type} [Fintype I] [DecidableEq I] (a : I) (Φ Ψ : I → sProp 𝕄) (h : ∀ j, j ≠ a → Φ j = Ψ j) :
    bigSep Finset.univ Φ ⊢ iprop(Φ a ∗ (Ψ a -∗ bigSep Finset.univ Ψ)) := by
  rw [bigSep_univ_split a, bigSep_univ_split a (Φ := Ψ), bigSep_congr fun j hj => h j (Finset.ne_of_mem_erase hj)]
  refine (show iprop(Φ a ∗ bigSep (Finset.univ.erase a) Ψ) ⊢ iprop(Φ a ∗ (Ψ a -∗ (Ψ a ∗ bigSep (Finset.univ.erase a) Ψ))) from ?_)
  iintro ⟨Ha, Hr⟩
  isplitl [Ha]; · iexact Ha
  iintro Hb
  isplitl [Hb] <;> iassumption

/-! ## The columns of `w` -/

/-- The share of `w` slot `i` reads with. -/
abbrev half : Fin 2 → PosShare TreeShare := ![(fullShare : PosShare TreeShare).left, (fullShare : PosShare TreeShare).right]
/-- That share of device `c`'s copy of `w`, at the elements `S`. -/
def wPts (c : Dev nD) (i : Fin 2) (S : Finset (Idx ((c : Thread nD τ).loc main_arg1))) : sProp 𝕄 :=
  ((c : Thread nD τ).loc main_arg1) ↦[S]{half i} wbuf m c
/-- Slot `i` for `w` with contents `f`. -/
def bPts (c : Dev nD) (i : Fin 2) (f : Buf (Elt F) ((bSlot i).view.loc (c : Thread nD τ))) : sProp 𝕄 :=
  (bSlot i).view.loc (c : Thread nD τ) ↦[(bSlot i).view.set]{fullShare} f

/-- Slot `i` at rest. -/
def Idle (c : Dev nD) (i : Fin 2) : sProp 𝕄 :=
  iprop((∃ f, bPts c i f) ∗ semVal ((c : Thread nD τ), .dma (wSem i)) 0 ∗ wPts m c i Finset.univ)
/-- Chunk `t` in its slot. -/
def Loaded (c : Dev nD) (t : Fin 16) : sProp 𝕄 :=
  iprop((∃ f, ⌜(bSlot (par t.val)).view.read (Elt F) f = (wCols c t).view.read (Elt F) (wbuf m c)⌝ ∗ bPts c (par t.val) f)
    ∗ semVal ((c : Thread nD τ), .dma (wSem (par t.val))) 0 ∗ wPts m c (par t.val) Finset.univ)
/-- Chunk `t` on its way. -/
def Flying (c : Dev nD) (t : Fin 16) : sProp 𝕄 :=
  iprop((∃ fd, Flight EC (c : Thread nD τ) (.dma (wSem (par t.val))) () (bSlot (par t.val)).view.dmaCredit
      iprop(bPts c (par t.val) ((bSlot (par t.val)).view.write (Elt F) fd ((wCols c t).view.read (Elt F) (wbuf m c)) Finset.univ)
        ∗ wPts m c (par t.val) (wCols c t).view.set))
    ∗ wPts m c (par t.val) (Finset.univ \ (wCols c t).view.set))

theorem Loaded.idle (c : Dev nD) (t : Fin 16) : Loaded m c t ⊢ Idle m c (par t.val) := by
  unfold Loaded Idle
  iintro ⟨⟨%f, -, H⟩, Hs⟩
  isplitl [H]; · iexists f; iexact H
  iexact Hs

theorem fetch_step (c : Dev nD) (t : Fin 16) (Q : PUnit.{1} → sProp 𝕄) :
    Idle m c (par t.val) ⊢ iprop((Flying m c t -∗ Q ⟨⟩) -∗ wpB c (fetch c t) Q) := by
  unfold Idle Flying
  iintro ⟨⟨%f, Hb⟩, Hs, Hw⟩ Hk
  unfold wPts
  ihave Hw' := (pointsTo_split_subset (Finset.subset_univ (wCols c t).view.set)).1 $$ Hw
  icases Hw' with ⟨Hw, Hr⟩
  unfold bPts
  iapply (wp_dmaLocal EC 𝒱₀ (c : Thread nD τ) none () (bSlot (par t.val)).view.dmaCredit rfl (View.dmaCredit_pos _ (by decide))
    (subset_refl _)) $$ [Hb Hs Hw]
  · isplitl [Hw]; · iexact Hw
    isplitl [Hb]; · iexact Hb
    iexact Hs
  iintro HF
  rw [wp_ret]; imodintro
  iapply Hk
  isplitl [HF]
  · iexists f; iexact HF
  · iexact Hr

theorem fetched_step (c : Dev nD) (t : Fin 16) (n k : ℕ) (Q : PUnit.{1} → sProp 𝕄) :
    iprop(Flying m c t ∗ (∃ W, owes (c : Thread nD τ) (O c n k) W) ∗ levAts L lv)
      ⊢ iprop(((Loaded m c t ∗ ∃ W, owes (c : Thread nD τ) (O c n k) W) -∗ Q ⟨⟩) -∗ wpB c (fetched c t) Q) := by
  unfold Flying Loaded
  iintro ⟨⟨⟨%fd, HF⟩, Hr⟩, ⟨%W, HO⟩, Hlev⟩ Hk
  iapply (wp_waitLocalO EC 𝒱₀ (c : Thread nD τ) none () rfl) $$ [HF HO Hlev]
  · isplitl [HF]; · iexact HF
    isplitl [HO]; · iexact HO
    iapply (mayWait c (.dma (wSem (par t.val))) n k (.inl (by rw [role_wSem]; rfl))); iexact Hlev
  iintro ⟨⟨Hb, Hw⟩, Hs, HO⟩
  rw [wp_ret]; imodintro
  iapply Hk
  isplitr [HO]
  · isplitl [Hb]
    · iexists ((bSlot (par t.val)).view.write (Elt F) fd ((wCols c t).view.read (Elt F) (wbuf m c)) Finset.univ)
      isplitr
      · ipureintro; exact View.read_write_univ _ _
      · iexact Hb
    · isplitl [Hs]; · iexact Hs
      unfold wPts
      iapply (pointsTo_split_subset (Finset.subset_univ (wCols c t).view.set)).2
      isplitl [Hw]; · iexact Hw
      iexact Hr
  · iexists _; iexact HO

end Cert.Exchange

end
-- ==== Proof.Result.lean ====
/-
The result of one device, block by block: which chunk makes the block an element lies in, and what a store of a block does.
-/
module

public import proofs.«01_k».proof.Proof.Protocol

@[expose] public section

set_option maxRecDepth 16384

noncomputable section

namespace Cert.Exchange

open Cert.KernelIdeal Cert.KernelIdeal.Gen
open Idealize.ShloMosaic
open Idealize.ShloMosaic.TcCoe

variable {F : FTy → Type} [FloatOps F]

/-- The round that pairs device `c` with device `p`. -/
def roundWith (c p : Fin 8) : Fin 8 := (![7, 0, 1, 3, 2, 5, 4, 6] : Fin 8 → Fin 8) (place c ^^^ place p)
theorem roundWith_peer (c : Dev nD) (j : Fin 8) : roundWith c (peer c j) = j := by revert c j; decide +kernel
theorem peer_roundWith (c p : Dev nD) : peer c (roundWith c p) = p := by revert c p; decide +kernel

/-- The device whose rows of `x` an element of the result depends on. -/
abbrev srcOf (i : S4096x1024.Idx) : Fin 8 := ⟨(i 0).val / 512, by have := (i 0).isLt; change _ < 4096 at this; omega⟩
/-- The half of the columns it lies in. -/
abbrev halfOf (i : S4096x1024.Idx) : Fin 2 := ⟨(i 1).val / 512, by have := (i 1).isLt; change _ < 1024 at this; omega⟩
/-- The chunk that makes it, on device `c`. -/
def unitAt (c : Dev nD) (i : S4096x1024.Idx) : Fin 16 := ⟨2 * (roundWith c (srcOf i)).val + (halfOf i).val, by omega⟩
/-- Where it stands in its block. -/
def inner (i : S4096x1024.Idx) : S512x512.Idx := fun a => match a with
  | ⟨0, _⟩ => ⟨(i 0).val % 512, Nat.mod_lt _ (by decide)⟩
  | ⟨1, _⟩ => ⟨(i 1).val % 512, Nat.mod_lt _ (by decide)⟩

/-- Where the block chunk `u` makes begins. -/
abbrev blockOff (c : Dev nD) (u : Fin 16) : Fin 2 → Nat := ![512 * (peer c (roundOf u)).val, 512 * (u.val % 2)]

theorem oOff_eq (c : Dev nD) (s : Fin 14) : oOff c s = blockOff c ⟨s.val, by omega⟩ := by revert c s; decide +kernel
theorem ownOff_eq (c : Dev nD) (u : Fin 16) (h : 14 ≤ u.val) : ownOff c u = blockOff c u := by revert c u; decide +kernel

/-- An element lies in the block of chunk `u` when its row and column say so. -/
theorem unitAt_eq_iff (c : Dev nD) (i : S4096x1024.Idx) (u : Fin 16) :
    unitAt c i = u ↔ (i 0).val / 512 = (peer c (roundOf u)).val ∧ (i 1).val / 512 = u.val % 2 := by
  have h2 : (halfOf i).val < 2 := (halfOf i).isLt
  constructor
  · intro h
    have hv : 2 * (roundWith c (srcOf i)).val + (halfOf i).val = u.val := congrArg Fin.val h
    have hr : roundOf u = roundWith c (srcOf i) := Fin.ext (by show u.val / 2 = _; omega)
    refine ⟨?_, ?_⟩
    · rw [hr, peer_roundWith]
    · show (halfOf i).val = _; omega
  · rintro ⟨h0, h1⟩
    have hs : srcOf i = peer c (roundOf u) := Fin.ext h0
    refine Fin.ext ?_
    show 2 * (roundWith c (srcOf i)).val + (halfOf i).val = u.val
    rw [hs, roundWith_peer]
    show 2 * (u.val / 2) + (i 1).val / 512 = u.val
    omega

variable (m : (ℓ : Loc nD τ sig) → Buf (Elt F) ℓ)

theorem made_received (c : Dev nD) {u : ℕ} (h : u < 14) (h' : u < 16) : made m c ⟨u, h'⟩ = k0_pay16 (arrived m c ⟨u, h⟩) := dif_pos h
theorem made_own (c : Dev nD) {u : Fin 16} (h : 14 ≤ u.val) : made m c u = k0_pay45 (xstg m c) (chunk m c u) := dif_neg (by omega)

/-- The result of device `c`. -/
def outAt (c : Dev nD) : (cc0_stg1_0 : Ref sig .tc).ty.Contents (Elt F) := fun i => made m c (unitAt c i) (inner i)

/-- The contents `f` agree with the result on the blocks of the chunks in `D`. -/
def Good (c : Dev nD) (D : Fin 16 → Prop) (f : (cc0_stg1_0 : Ref sig .tc).ty.Contents (Elt F)) : Prop :=
  ∀ i, D (unitAt c i) → f i = outAt m c i

theorem Good.all {c : Dev nD} {D : Fin 16 → Prop} {f} (h : Good m c D f) (hD : ∀ u, D u) : f = outAt m c :=
  funext fun i => h i (hD _)

/-- A store of the block of chunk `u` makes that block good, and spoils none. -/
theorem Good.store {c : Dev nD} {D D' : Fin 16 → Prop} {f} (hg : Good m c D f) (u : Fin 16) (hD : ∀ v, D' v → D v ∨ v = u)
    {off : Fin 2 → Nat} (hoff : off = blockOff c u) (inb : ∀ a, off a + S512x512.size a ≤ S4096x1024.size a) :
    Good m c D' ((oM.access (Rect.unit (s := S4096x1024) off S512x512.size inb)).write (Elt F) f (made m c u) Finset.univ) := by
  subst hoff
  intro i hi
  by_cases hu : unitAt c i = u
  · obtain ⟨h0, h1⟩ := (unitAt_eq_iff c i u).mp hu
    have e : (oM.access (Rect.unit (s := S4096x1024) (blockOff c u) S512x512.size inb)).emb (inner i) = i := by
      refine funext fun a => Fin.ext ?_
      match a with
      | ⟨0, _⟩ =>
        show 512 * (peer c (roundOf u)).val + 1 * ((i 0).val % 512) = (i 0).val
        omega
      | ⟨1, _⟩ =>
        show 512 * (u.val % 2) + 1 * ((i 1).val % 512) = (i 1).val
        omega
    have := View.write_emb_of_mem (v := oM.access (Rect.unit (s := S4096x1024) (blockOff c u) S512x512.size inb)) (Val := Elt F)
      f (made m c u) (Finset.mem_univ (inner i))
    rw [e] at this
    rw [this]
    show made m c u (inner i) = made m c (unitAt c i) (inner i)
    rw [hu]
  · have hn : ∀ x, (oM.access (Rect.unit (s := S4096x1024) (blockOff c u) S512x512.size inb)).emb x ≠ i := by
      intro x hx
      refine hu ((unitAt_eq_iff c i u).mpr ?_)
      have h0 : 512 * (peer c (roundOf u)).val + 1 * (x 0).val = (i 0).val := congrArg (fun j : S4096x1024.Idx => (j 0).val) hx
      have h1 : 512 * (u.val % 2) + 1 * (x 1).val = (i 1).val := congrArg (fun j : S4096x1024.Idx => (j 1).val) hx
      have l0 : (x 0).val < 512 := (x 0).isLt
      have l1 : (x 1).val < 512 := (x 1).isLt
      omega
    rw [View.write_of_not_mem (v := oM.access (Rect.unit (s := S4096x1024) (blockOff c u) S512x512.size inb)) (Val := Elt F)
      f (made m c u) Finset.univ (fun h => by
        obtain ⟨x, -, hx⟩ := Finset.mem_map.mp h
        exact hn x hx)]
    exact hg i ((hD _ hi).resolve_right hu)

end Cert.Exchange

end
-- ==== Proof.Moves.lean ====
/-
The rules for the loads and the stores of the body, and for the steps on the exchange: send a block, wait until it has left, take one in.
-/
module

public import proofs.«01_k».proof.Proof.Steps
public import proofs.«01_k».proof.Proof.Result

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-- A sequence of steps, one after the other. -/
theorem wpB_bind (c : Dev nD) {α β : Type} (p : Step F α) (k : α → Step F β) (Q : β → sProp 𝕄) :
    wpB c (p >>= k) Q = wpB c p (fun a => wpB c (k a) Q) := wp_bind ..
theorem wpB_pure (c : Dev nD) {α : Type} (a : α) (Q : α → sProp 𝕄) : Q a ⊢ wpB c (pure a : Step F α) Q := by
  show Q a ⊢ wp _ _ _ (Prog.ret a) _
  rw [wp_ret]
  iintro H
  imodintro
  iexact H

/-! ## Loads and stores -/

/-- A view in another shape reads, at the index matched with `x`, what the view reads at `x`. -/
theorem read_reshape_symm {κ : Kind} {Val : EltTy → Type} {sp : Space} {s s' : Shape} {e : EltTy} (v : View sig κ sp s e)
    (h : s'.numel = s.numel) (f : v.ty.Contents Val) (x : s.Idx) :
    (v.reshape s' h).read Val f (Shape.reshapeEquiv h.symm x) = v.read Val f x := by
  show v.read Val f (Shape.reshapeEquiv h (Shape.reshapeEquiv h.symm x)) = _
  rw [Shape.reshapeEquiv_reshapeEquiv, Shape.reshapeEquiv_self]

/-- Device `c`'s rows of `x`, staged. -/
def xPts (c : Dev nD) : sProp 𝕄 := ((c : Thread nD τ).loc cc0_stg0_0) ↦{fullShare} xstg m c
/-- The result's staging buffer with contents `f`. -/
def oPts (c : Dev nD) (f : (cc0_stg1_0 : Ref sig .tc).ty.Contents (Elt F)) : sProp 𝕄 := ((c : Thread nD τ).loc cc0_stg1_0) ↦{fullShare} f

theorem zeros2 : (![0, 0] : Fin 2 → Nat) = fun _ => 0 := by funext a; fin_cases a <;> rfl

theorem read_xM (f : (cc0_stg0_0 : Ref sig .tc).ty.Contents (Elt F)) :
    (xM.access (Rect.unit (s := S512x4096) ![0, 0] S512x4096.size inb_S512x4096_S512x4096_0_0)).read (Elt F) f = f :=
  Memref.read_access_unit_zero (Elt F) cc0_stg0_0 zeros2 _ f

/-- A load of the staged rows gives what the buffer reads. -/
theorem readX_any (c : Dev nD) (f : (cc0_stg0_0 : Ref sig .tc).ty.Contents (Elt F)) (Q : Vec F S512x4096 .f32 → sProp 𝕄) :
    ((c : Thread nD τ).loc cc0_stg0_0 ↦{fullShare} f)
      ⊢ iprop((((c : Thread nD τ).loc cc0_stg0_0 ↦{fullShare} f)
        -∗ Q ((xM.access (Rect.unit (s := S512x4096) ![0, 0] S512x4096.size inb_S512x4096_S512x4096_0_0)).read (Elt F) f)) -∗ wpB c readX Q) := by
  iintro Hx Hk
  iapply (wp_load_rect 𝒱₀ (c : Thread nD τ) none Set.univ (m := xM)
    (r := Rect.unit (s := S512x4096) ![0, 0] S512x4096.size inb_S512x4096_S512x4096_0_0) (Finset.subset_univ _)) $$ Hx
  iintro Hx
  rw [wp_ret]; imodintro
  iapply Hk; iexact Hx
/-- A load of the rows of `x` gives them. -/
theorem readX_step (c : Dev nD) (Q : Vec F S512x4096 .f32 → sProp 𝕄) :
    xPts m c ⊢ iprop((xPts m c -∗ Q (xstg m c)) -∗ wpB c readX Q) := by
  have h := readX_any c (xstg m c) Q
  rw [read_xM] at h
  exact h

/-- A load of a slot of `w` gives what the slot reads. -/
theorem readW_any (c : Dev nD) (i : Fin 2) (f : Buf (Elt F) ((bSlot i).view.loc (c : Thread nD τ))) (Q : Vec F S1x4096x512 .f32 → sProp 𝕄) :
    bPts c i f ⊢ iprop((bPts c i f -∗ Q ((bM.access (bRect i)).read (Elt F) f)) -∗ wpB c (readW i) Q) := by
  unfold bPts
  iintro Hb Hk
  iapply (wp_load_rect 𝒱₀ (c : Thread nD τ) none Set.univ (m := bM) (r := bRect i) (View.set_reshape _ _).ge) $$ Hb
  iintro Hb
  rw [wp_ret]; imodintro
  iapply Hk; iexact Hb
/-- What a load of a slot reads, from what the slot reads as a block. -/
theorem read_bM (c : Dev nD) (t : Fin 16) (f : Buf (Elt F) ((bSlot (par t.val)).view.loc (c : Thread nD τ)))
    (hf : (bSlot (par t.val)).view.read (Elt F) f = (wCols c t).view.read (Elt F) (wbuf m c)) :
    (bM.access (bRect (par t.val))).read (Elt F) f = chunk m c t := by
  funext i
  unfold chunk
  rw [← hf]
  exact (read_reshape_symm (bM.access (bRect (par t.val))) _ f i).symm
/-- A load of a slot of `w` gives the chunk in it. -/
theorem readW_step (c : Dev nD) (t : Fin 16) (Q : Vec F S1x4096x512 .f32 → sProp 𝕄) :
    Loaded m c t ⊢ iprop((Loaded m c t -∗ Q (chunk m c t)) -∗ wpB c (readW (par t.val)) Q) := by
  unfold Loaded
  iintro ⟨⟨%f, %hf, Hb⟩, Hs⟩ Hk
  have h := readW_any c (par t.val) f Q
  rw [read_bM m c t f hf] at h
  iapply h $$ Hb
  iintro Hb
  iapply Hk
  isplitl [Hb]
  · iexists f
    isplitr; · ipureintro; exact hf
    iexact Hb
  · iexact Hs

/-- A store of a product fills its slot. -/
theorem storeP_step (c : Dev nD) (k : Fin 6) (v : FVec F S1x512x512 .bf16) (Q : PUnit.{1} → sProp 𝕄) :
    pAny c k ⊢ iprop(((∃ f, ⌜(pSlot k).view.read (Elt F) f = fun i => v (Shape.reshapeEquiv squeezes_S1x512x512_S512x512.numel_eq i)⌝ ∗ pPts c k f)
      -∗ Q ⟨⟩) -∗ wpB c (storeP k v) Q) := by
  unfold pAny pPts
  iintro ⟨%f, Hp⟩ Hk
  iapply (wp_load_rect 𝒱₀ (c : Thread nD τ) none Set.univ (m := pM) (r := pRect k)
    (View.set_reshape _ _).ge) $$ Hp
  iintro Hp
  iapply (wp_store 𝒱₀ (c : Thread nD τ) none Set.univ (m := pM) (r := pRect k) (Mk := Finset.univ)
    (View.set_reshape _ _).ge) $$ Hp
  iintro Hp
  rw [wp_ret]; imodintro
  iapply Hk
  iexists ((pM.access (pRect k)).write (Elt F) f v Finset.univ)
  isplitr
  · ipureintro
    funext i
    show (pM.access (pRect k)).read (Elt F) ((pM.access (pRect k)).write (Elt F) f v Finset.univ) (Shape.reshapeEquiv _ i) = _
    rw [View.read_write_univ]
  · iexact Hp

/-- A store of a block of the result. -/
theorem storeO_step (c : Dev nD) (off : Fin 2 → Nat) (inb : ∀ a, off a + S512x512.size a ≤ S4096x1024.size a) (v : FVec F S512x512 .f32)
    (f : (cc0_stg1_0 : Ref sig .tc).ty.Contents (Elt F)) (Q : PUnit.{1} → sProp 𝕄) :
    oPts c f ⊢ iprop((oPts c ((oM.access (Rect.unit (s := S4096x1024) off S512x512.size inb)).write (Elt F) f v Finset.univ) -∗ Q ⟨⟩)
      -∗ wpB c (storeO off inb v) Q) := by
  unfold oPts
  iintro Ho Hk
  iapply (wp_load_rect 𝒱₀ (c : Thread nD τ) none Set.univ (m := oM) (r := Rect.unit (s := S4096x1024) off S512x512.size inb)
    (Finset.subset_univ _)) $$ Ho
  iintro Ho
  iapply (wp_store 𝒱₀ (c : Thread nD τ) none Set.univ (m := oM) (r := Rect.unit (s := S4096x1024) off S512x512.size inb) (Mk := Finset.univ)
    (Finset.subset_univ _)) $$ Ho
  iintro Ho
  rw [wp_ret]; imodintro
  iapply Hk; iexact Ho

/-- The result's buffer, right on the blocks of the chunks in `D`. -/
def Out (c : Dev nD) (D : Fin 16 → Prop) : sProp 𝕄 := iprop(∃ f, ⌜Good m c D f⌝ ∗ oPts c f)

/-- A store of the block chunk `u` makes. -/
theorem block_step (c : Dev nD) {D D' : Fin 16 → Prop} (u : Fin 16) (hD : ∀ v, D' v → D v ∨ v = u) (off : Fin 2 → Nat) (hoff : off = blockOff c u)
    (inb : ∀ a, off a + S512x512.size a ≤ S4096x1024.size a) (v : FVec F S512x512 .f32) (hv : v = made m c u) (Q : PUnit.{1} → sProp 𝕄) :
    Out m c D ⊢ iprop((Out m c D' -∗ Q ⟨⟩) -∗ wpB c (storeO off inb v) Q) := by
  subst hv
  unfold Out
  iintro ⟨%f, %hf, Ho⟩ Hk
  iapply (storeO_step c off inb (made m c u) f Q) $$ Ho
  iintro Ho
  iapply Hk
  iexists _
  isplitr; rotate_left
  · iexact Ho
  · ipureintro; exact hf.store m u hD hoff inb

/-! ## The records: every cell's invariant, its first round, and the order of waits -/

variable (K : Dev nD × CK → ℕ)

def recs : sProp 𝕄 :=
  iprop((bigSep Finset.univ fun ck : Dev nD × CK => cellInv ER (Rd (F := F) m) (K ck) (kcell ck))
    ∗ (bigSep Finset.univ fun ck : Dev nD × CK => reached ER (kcell ck) 0) ∗ levAts L lv)
instance recs_persistent : BI.Persistent (recs m K : sProp 𝕄) := by unfold recs; infer_instance

omit [FloatOps F] in
theorem all_at {I : Type} [Fintype I] [DecidableEq I] (Φ : I → sProp 𝕄) (i : I) : bigSep Finset.univ Φ ⊢ Φ i := bigSep_elim (Finset.mem_univ i)
theorem recs_inv (c : Dev nD) (k : CK) : recs m K ⊢ cellInv ER (Rd (F := F) m) (K (c, k)) (kcell (c, k)) := by
  unfold recs
  iintro ⟨H, -⟩
  iapply (all_at (fun ck : Dev nD × CK => cellInv ER (Rd (F := F) m) (K ck) (kcell ck)) (c, k)) $$ H
theorem recs_reached (c : Dev nD) (k : CK) : recs m K ⊢ (reached ER (kcell (c, k)) 0 : sProp 𝕄) := by
  unfold recs
  iintro ⟨-, H, -⟩
  iapply (all_at (fun ck : Dev nD × CK => (reached ER (kcell ck) 0 : sProp 𝕄)) (c, k)) $$ H
theorem recs_lev : recs m K ⊢ (levAts L lv : sProp 𝕄) := by
  unfold recs
  iintro ⟨-, -, H⟩
  iexact H

/-- Device `c` owes `n` signals and `t` blocks less than at the start. -/
def Owes (c : Dev nD) (n t : ℕ) : sProp 𝕄 := iprop(∃ W, owes (c : Thread nD τ) (O c n t) W)

/-! ## The exchange -/

/-- What device `c` holds of chunk `s` it sends, with `l` chunks gone from their slots and `t` posted. -/
def sendSt (c : Dev nD) (l t : ℕ) (s : Fin 14) : sProp 𝕄 :=
  if s.val < l then semVal (sndCell c s) 0
  else if s.val < t then iprop(atPos ER (sndCell c s) 0 ∅ 0 ∗ cred (tallyAt (sndCell c s) () N))
  else iprop(atPos ER (sndCell c s) 0 ∅ 0 ∗ dutyTok ER (sndCell c s) 0 0 ∗ dutyTok ER (rcvCell (mate c s) s) 0 0 ∗ rAny (mate c s) s)
omit [FloatOps F] in
theorem sendSt_gone (c : Dev nD) {l t : ℕ} {s : Fin 14} (h : s.val < l) : sendSt (F := F) c l t s = semVal (sndCell c s) 0 := if_pos h
omit [FloatOps F] in
theorem sendSt_posted (c : Dev nD) {l t : ℕ} {s : Fin 14} (h : l ≤ s.val) (h' : s.val < t) :
    sendSt (F := F) c l t s = iprop(atPos ER (sndCell c s) 0 ∅ 0 ∗ cred (tallyAt (sndCell c s) () N)) :=
  (if_neg (by omega)).trans (if_pos h')
omit [FloatOps F] in
theorem sendSt_todo (c : Dev nD) {l t : ℕ} {s : Fin 14} (h : l ≤ s.val) (h' : t ≤ s.val) :
    sendSt (F := F) c l t s = iprop(atPos ER (sndCell c s) 0 ∅ 0 ∗ dutyTok ER (sndCell c s) 0 0 ∗ dutyTok ER (rcvCell (mate c s) s) 0 0 ∗ rAny (mate c s) s) :=
  (if_neg (by omega)).trans (if_neg (by omega))
/-- The chunks of device `c` to send. -/
def Sends (c : Dev nD) (l t : ℕ) : sProp 𝕄 := bigSep Finset.univ fun s => sendSt (F := F) c l t s

/-- What device `c` holds of chunk `s` it receives, with `n` chunks taken in. -/
def recvSt (c : Dev nD) (n : ℕ) (s : Fin 14) : sProp 𝕄 :=
  if s.val < n then iprop(semVal (rcvCell c s) 0 ∗ rAny c s)
  else iprop(atPos ER (rcvCell c s) 0 ∅ 0 ∗ cred (tallyAt (rcvCell c s) () N))
omit [FloatOps F] in
theorem recvSt_done (c : Dev nD) {n : ℕ} {s : Fin 14} (h : s.val < n) : recvSt (F := F) c n s = iprop(semVal (rcvCell c s) 0 ∗ rAny c s) := if_pos h
omit [FloatOps F] in
theorem recvSt_todo (c : Dev nD) {n : ℕ} {s : Fin 14} (h : n ≤ s.val) :
    recvSt (F := F) c n s = iprop(atPos ER (rcvCell c s) 0 ∅ 0 ∗ cred (tallyAt (rcvCell c s) () N)) := if_neg (by omega)
/-- The chunks of device `c` to take in. -/
def Recvs (c : Dev nD) (n : ℕ) : sProp 𝕄 := bigSep Finset.univ fun s => recvSt (F := F) c n s

/-- The product slots that hold no chunk on its way. -/
def slotSt (c : Dev nD) (l t : ℕ) (k : Fin 6) : sProp 𝕄 :=
  if ∃ s ∈ Finset.Ico l t, s % 6 = k.val then iprop(emp) else pAny (F := F) c k
omit [FloatOps F] in
theorem slotSt_free (c : Dev nD) {l t : ℕ} {k : Fin 6} (h : ∀ s, l ≤ s → s < t → s % 6 ≠ k.val) : slotSt (F := F) c l t k = pAny c k :=
  if_neg fun ⟨s, hs, e⟩ => h s (Finset.mem_Ico.mp hs).1 (Finset.mem_Ico.mp hs).2 e
omit [FloatOps F] in
theorem slotSt_taken (c : Dev nD) {l t s : ℕ} {k : Fin 6} (h : l ≤ s) (h' : s < t) (e : s % 6 = k.val) : slotSt (F := F) c l t k = iprop(emp) :=
  if_pos ⟨s, Finset.mem_Ico.mpr ⟨h, h'⟩, e⟩
/-- The product slots of device `c` that are free. -/
def Slots (c : Dev nD) (l t : ℕ) : sProp 𝕄 := bigSep Finset.univ fun k => slotSt (F := F) c l t k

omit [FloatOps F] in
/-- The slot of a chunk just gone is free. -/
theorem slot_free (c : Dev nD) {l t : ℕ} (ht : t ≤ l + 6) :
    iprop(Slots (F := F) c l t ∗ pAny c (slotOf l)) ⊢ Slots c (l + 1) t := by
  unfold Slots
  iintro ⟨H, Hp⟩
  ihave H := (bigSep_swap (slotOf l) (slotSt (F := F) c l t) (slotSt c (l + 1) t) (fun k hk => by
    unfold slotSt
    refine if_congr ⟨?_, ?_⟩ rfl rfl
    · rintro ⟨s, hs, e⟩
      rw [Finset.mem_Ico] at hs
      refine ⟨s, Finset.mem_Ico.mpr ⟨?_, hs.2⟩, e⟩
      rcases Nat.lt_or_ge l s with h | h
      · exact h
      · exact absurd (Fin.ext (by show k.val = l % 6; rw [← e, show s = l by omega])) hk
    · rintro ⟨s, hs, e⟩
      rw [Finset.mem_Ico] at hs
      exact ⟨s, Finset.mem_Ico.mpr ⟨by omega, hs.2⟩, e⟩)) $$ H
  icases H with ⟨-, H⟩
  iapply H
  iapply (Entails.of_eq (slotSt_free c (fun s h h' e => by have : s % 6 = l % 6 := e; omega)).symm); iexact Hp
omit [FloatOps F] in
/-- The slot of the chunk to post is free, and taken by it. -/
theorem slot_take (c : Dev nD) {l t : ℕ} (hl : l ≤ t) (ht : t < l + 6) :
    Slots (F := F) c l t ⊢ iprop(pAny c (slotOf t) ∗ Slots c l (t + 1)) := by
  unfold Slots
  iintro H
  ihave H := (bigSep_swap (slotOf t) (slotSt (F := F) c l t) (slotSt c l (t + 1)) (fun k hk => by
    unfold slotSt
    refine if_congr ⟨?_, ?_⟩ rfl rfl
    · rintro ⟨s, hs, e⟩
      rw [Finset.mem_Ico] at hs
      exact ⟨s, Finset.mem_Ico.mpr ⟨hs.1, by omega⟩, e⟩
    · rintro ⟨s, hs, e⟩
      rw [Finset.mem_Ico] at hs
      refine ⟨s, Finset.mem_Ico.mpr ⟨hs.1, ?_⟩, e⟩
      rcases Nat.lt_or_ge s t with h | h
      · exact h
      · exact absurd (Fin.ext (by show k.val = t % 6; rw [← e, show s = t by omega])) hk)) $$ H
  icases H with ⟨Hp, H⟩
  isplitl [Hp]
  · iapply (Entails.of_eq (slotSt_free (l := l) (t := t) (k := slotOf t) c (fun s h h' e => by have : s % 6 = t % 6 := e; omega))); iexact Hp
  · iapply H
    iapply (Entails.of_eq (slotSt_taken c hl (Nat.lt_succ_self _) rfl).symm); iempintro

/-- Wait until a posted chunk is gone: its slot comes back, and its cell closes. -/
theorem left_step (c : Dev nD) (l t : ℕ) (hl : l < 14) (hlt : l < t) (Q : PUnit.{1} → sProp 𝕄) :
    iprop(recs m K ∗ Owes c 7 t ∗ Sends c l t)
      ⊢ iprop(((Owes c 7 t ∗ Sends c (l + 1) t ∗ pAny c (slotOf l)) -∗ Q ⟨⟩) -∗ wpB c (left ⟨l, hl⟩) Q) := by
  unfold Owes Sends
  iintro ⟨#HR, ⟨%W, HO⟩, HS⟩ Hk
  ihave HS := (bigSep_swap ⟨l, hl⟩ (sendSt (F := F) c l t) (sendSt c (l + 1) t) (fun s hs => by
    have : s.val ≠ l := fun e => hs (Fin.ext e)
    unfold sendSt
    exact if_congr (by omega) rfl rfl)) $$ HS
  icases HS with ⟨Hs, HS⟩
  ihave Hs := (Entails.of_eq (sendSt_posted (s := ⟨l, hl⟩) c (le_refl _) hlt)) $$ Hs
  icases Hs with ⟨Hat, Hc⟩
  iapply (Rounds.wp_wait_rest_token 𝒱₀ ER (Rd m) (c : Thread nD τ) none (κ := K (c, .inr (.inl ⟨l, hl⟩)))
    (wpE_waitDma2_eq 𝒱₀ (c : Thread nD τ) none Set.univ) (Set.mem_univ _) () (O := O c 7 t) (W := W) (R := 0) (m := 0) (T := ∅)
    (by rw [Nat.zero_add]; exact (expect_one m c (.inl ⟨l, hl⟩)).symm)) $$ [Hat Hc HO]
  · isplitr; · iapply (recs_inv m K c (.inr (.inl ⟨l, hl⟩))); iexact HR
    isplitl [Hc]; · iexact Hc
    isplitl [HO]; · iexact HO
    isplitr
    · iapply (mayWait c (csem (.inr (.inl ⟨l, hl⟩))) 7 t (.inl (by rw [role_csem]; rfl)))
      iapply (recs_lev m K); iexact HR
    iexact Hat
  iintro ⟨HO, Hat, -, Hp⟩
  ihave Hp := (show _ ⊢ pAny c (slotOf l) from Entails.of_eq (rest_one m c (.inl ⟨l, hl⟩))) $$ Hp
  imod (Rounds.cell_close ER (Rd m) (Set.mem_univ (K (c, .inr (.inl ⟨l, hl⟩)))) (fun h => h) (R := 0 + 1)
    (duties_later m (sndCell c ⟨l, hl⟩))) $$ [Hat] with Hz
  · isplitr; · iapply (recs_inv m K c (.inr (.inl ⟨l, hl⟩))); iexact HR
    iexact Hat
  rw [wp_ret]; imodintro
  iapply Hk
  isplitl [HO]; · iexists _; iexact HO
  isplitr [Hp]
  · iapply HS
    iapply (Entails.of_eq (sendSt_gone c (Nat.lt_succ_self _)).symm); iexact Hz
  · iexact Hp

/-- The send of a block, with everything at hand. -/
theorem send_op (c n : Dev nD) (s : Fin 14) (hn : n = mate c s)
    {hsc : (rSlot (hop s) (par s.val) : Memref sig (Dev.tc n : Thread nD τ).2.kind .vmem S512x512 .bf16).view.ref.isScScratch = false}
    {hsrc : (pSlot (slotOf s.val)).view.WordExact} {hdst : (rSlot (hop s) (par s.val)).view.WordExact}
    {hsem : DmaTarget.Typed .vmem (.dma (rSem s)) (.remote (Dev.tc n : Thread nD τ) (rSlot (hop s) (par s.val)) (.dma (sSem s)) hsc)}
    {α : Type} {Q : α → sProp 𝕄} {k : PUnit.{1} → Step F α}
    (fs : Buf (Elt F) ((pSlot (slotOf s.val)).view.loc (c : Thread nD τ))) (hfs : (pSlot (slotOf s.val)).view.read (Elt F) fs = sent m c s)
    (fd : Buf (Elt F) ((rSlot (hop s) (par s.val)).view.loc (mate c s : Thread nD τ)))
    (O₀ O₁ : CellTallies nD τ sig Unit) (hO : O₀ = O₁ + tallyAt (rcvCell (mate c s) s) () N) (W : Waits sig Unit) :
    iprop(cellInv ER (Rd (F := F) m) (K (c, .inr (.inl s))) (sndCell c s) ∗ cellInv ER (Rd (F := F) m) (K (mate c s, .inr (.inr s))) (rcvCell (mate c s) s)
        ∗ pPts c (slotOf s.val) fs ∗ rPts (mate c s) s fd ∗ owes (c : Thread nD τ) O₀ W
        ∗ dutyTok ER (sndCell c s) 0 0 ∗ reached ER (sndCell c s) 0
        ∗ dutyTok ER (rcvCell (mate c s) s) 0 0 ∗ reached ER (rcvCell (mate c s) s) 0)
      ⊢ iprop(((cred (tallyAt (sndCell c s) () N) ∗ owes (c : Thread nD τ) O₁ W) -∗ wpB c (k ⟨⟩) Q)
          -∗ wpB c (.op (.enqueueDma (pSlot (slotOf s.val)) (.remote (Dev.tc n : Thread nD τ) (rSlot (hop s) (par s.val)) (.dma (sSem s)) hsc)
              (.dma (rSem s)) hsrc hdst hsem) k) Q) := by
  subst hn
  unfold pPts rPts
  exact Rounds.wp_send_pointsTo 𝒱₀ ER (Rd m) (c : Thread nD τ) none (κ₁ := K (c, .inr (.inl s))) (κ₂ := K (mate c s, .inr (.inr s)))
    (r₁ := 0) (r₂ := 0) (d₁ := 0) (d₂ := 0) (fd := fd)
    (by rw [duties_eq]; exact Finset.mem_singleton_self _) (by rw [duties_eq]; exact Finset.mem_singleton_self _)
    () () N rfl (amount_eq m c (.inr (.inl s)) 0) (amount_eq m (mate c s) (.inr (.inr s)) 0) O₁ hO (W := W)
    (by
      rw [payload_eq]
      show _ ⊢ pAny c (slotOf s.val)
      unfold pAny pPts
      iintro H; iexists fs; iexact H)
    (by
      rw [payload_eq]
      show _ ⊢ rHas m (mate c s) s
      unfold rHas rPts
      iintro H; iexists _
      isplitr; rotate_left
      · iexact H
      · ipureintro
        rw [View.read_write_univ, hfs, mate_mate])

/-- Store a chunk's product in a free slot and send it. -/
theorem post_step (c : Dev nD) (l t : ℕ) (ht : t < 14) (hl : l ≤ t) (htl : t < l + 6) (Q : PUnit.{1} → sProp 𝕄) :
    iprop(recs m K ∗ Owes c 7 t ∗ Sends c l t ∗ Slots c l t)
      ⊢ iprop(((Owes c 7 (t + 1) ∗ Sends c l (t + 1) ∗ Slots c l (t + 1)) -∗ Q ⟨⟩)
        -∗ wpB c (storeP (slotOf t) (k0_pay1 (xstg m c) (chunk m c ⟨t, by omega⟩)) >>= fun _ => send c ⟨t, ht⟩) Q) := by
  rw [wpB_bind]
  unfold Owes Sends
  iintro ⟨#HR, ⟨%W, HO⟩, HS, HP⟩ Hk
  ihave HP := (slot_take c hl htl) $$ HP
  icases HP with ⟨Hp, HP⟩
  ihave HS := (bigSep_swap ⟨t, ht⟩ (sendSt (F := F) c l t) (sendSt c l (t + 1)) (fun s hs => by
    have : s.val ≠ t := fun e => hs (Fin.ext e)
    unfold sendSt
    exact if_congr (by omega) rfl (if_congr (by omega) rfl rfl))) $$ HS
  icases HS with ⟨Hs, HS⟩
  ihave Hs := (Entails.of_eq (sendSt_todo (s := ⟨t, ht⟩) c hl (le_refl _))) $$ Hs
  icases Hs with ⟨Hat, Ht1, Ht2, Hr⟩
  unfold rAny
  icases Hr with ⟨%fd, Hr⟩
  have h16 : t < 16 := by omega
  iapply (storeP_step c (slotOf t) (k0_pay1 (xstg m c) (chunk m c ⟨t, h16⟩))) $$ Hp
  iintro ⟨%fs, %hfs, Hp⟩
  iapply (send_op m K c (sendTo c ⟨t, ht⟩) ⟨t, ht⟩ (sendTo_eq c ⟨t, ht⟩) fs hfs fd (O c 7 t) (O c 7 (t + 1)) (O_send c 7 ht) W)
    $$ [HO Hp Hr Ht1 Ht2]
  · isplitr; · iapply (recs_inv m K c (.inr (.inl ⟨t, ht⟩))); iexact HR
    isplitr; · iapply (recs_inv m K (mate c ⟨t, ht⟩) (.inr (.inr ⟨t, ht⟩))); iexact HR
    isplitl [Hp]; · iexact Hp
    isplitl [Hr]; · iexact Hr
    isplitl [HO]; · iexact HO
    isplitl [Ht1]; · iexact Ht1
    isplitr; · iapply (recs_reached m K c (.inr (.inl ⟨t, ht⟩))); iexact HR
    isplitl [Ht2]; · iexact Ht2
    iapply (recs_reached m K (mate c ⟨t, ht⟩) (.inr (.inr ⟨t, ht⟩))); iexact HR
  iintro ⟨Hc, HO⟩
  iapply (wpB_pure c)
  iapply Hk
  isplitl [HO]; · iexists W; iexact HO
  isplitr [HP]
  · iapply HS
    iapply (Entails.of_eq (sendSt_posted c hl (Nat.lt_succ_self _)).symm)
    isplitl [Hat] <;> iassumption
  · iexact HP

/-- A load of an arrival slot gives what the slot reads. -/
theorem readR_any (c : Dev nD) (s : Fin 14) (f : Buf (Elt F) ((rSlot (hop s) (par s.val)).view.loc (c : Thread nD τ)))
    (Q : Vec F S1x1x512x512 .bf16 → sProp 𝕄) :
    rPts c s f ⊢ iprop((rPts c s f -∗ Q ((rM.access (rRect (hop s) (par s.val))).read (Elt F) f))
      -∗ wpB c (Prog.lift (.load rM (rRect (hop s) (par s.val)).toLoadRect (View.loadsAt_vmem h_S1x1x512x512))) Q) := by
  unfold rPts
  iintro Hr Hk
  iapply (wp_load_rect 𝒱₀ (c : Thread nD τ) none Set.univ (m := rM) (r := rRect (hop s) (par s.val)) (View.set_reshape _ _).ge) $$ Hr
  iintro Hr
  rw [wp_ret]; imodintro
  iapply Hk; iexact Hr
/-- What a load of an arrival slot reads, from what the slot reads as a block. -/
theorem read_rM (c : Dev nD) (s : Fin 14) (f : Buf (Elt F) ((rSlot (hop s) (par s.val)).view.loc (c : Thread nD τ)))
    (hf : (rSlot (hop s) (par s.val)).view.read (Elt F) f = sent m (mate c s) s) :
    (rM.access (rRect (hop s) (par s.val))).read (Elt F) f = arrived m c s := by
  funext i
  unfold arrived
  rw [← hf]
  exact (read_reshape_symm (rM.access (rRect (hop s) (par s.val))) _ f i).symm
/-- A load of an arrival slot that holds the block sent gives it. -/
theorem readR_step (c : Dev nD) (s : Fin 14) (Q : Vec F S1x1x512x512 .bf16 → sProp 𝕄) :
    rHas m c s ⊢ iprop((rAny c s -∗ Q (arrived m c s))
      -∗ wpB c (Prog.lift (.load rM (rRect (hop s) (par s.val)).toLoadRect (View.loadsAt_vmem h_S1x1x512x512))) Q) := by
  unfold rHas
  iintro ⟨%f, %hf, Hr⟩ Hk
  have h := readR_any c s f Q
  rw [read_rM m c s f hf] at h
  iapply h $$ Hr
  iintro Hr
  iapply Hk
  unfold rAny
  iexists f; iexact Hr

/-- Take in a chunk: wait for it, and store the block of the result it makes. -/
theorem receive_step (c : Dev nD) (n t : ℕ) (hn : n < 14) (hnt : n < t) {D D' : Fin 16 → Prop}
    (hD : ∀ v, D' v → D v ∨ v = ⟨n, by omega⟩) (Q : PUnit.{1} → sProp 𝕄) :
    iprop(recs m K ∗ Owes c 7 t ∗ Recvs c n ∗ Out m c D)
      ⊢ iprop(((Owes c 7 t ∗ Recvs c (n + 1) ∗ Out m c D') -∗ Q ⟨⟩) -∗ wpB c (receive c ⟨n, hn⟩) Q) := by
  unfold receive
  rw [wpB_bind]
  unfold Owes Recvs
  iintro ⟨#HR, ⟨%W, HO⟩, HS, Hout⟩ Hk
  ihave HS := (bigSep_swap ⟨n, hn⟩ (recvSt (F := F) c n) (recvSt c (n + 1)) (fun s hs => by
    have : s.val ≠ n := fun e => hs (Fin.ext e)
    unfold recvSt
    exact if_congr (by omega) rfl rfl)) $$ HS
  icases HS with ⟨Hs, HS⟩
  ihave Hs := (Entails.of_eq (recvSt_todo (s := ⟨n, hn⟩) c (le_refl _))) $$ Hs
  icases Hs with ⟨Hat, Hc⟩
  iapply (Rounds.wp_wait_rest_token 𝒱₀ ER (Rd m) (c : Thread nD τ) none (κ := K (c, .inr (.inr ⟨n, hn⟩)))
    (wpE_waitDma2_eq 𝒱₀ (c : Thread nD τ) none Set.univ) (Set.mem_univ _) () (O := O c 7 t) (W := W) (R := 0) (m := 0) (T := ∅)
    (by rw [Nat.zero_add]; exact (expect_one m c (.inr ⟨n, hn⟩)).symm)) $$ [Hat Hc HO]
  · isplitr; · iapply (recs_inv m K c (.inr (.inr ⟨n, hn⟩))); iexact HR
    isplitl [Hc]; · iexact Hc
    isplitl [HO]; · iexact HO
    isplitr
    · iapply (mayWait c (csem (.inr (.inr ⟨n, hn⟩))) 7 t (.inr ⟨le_refl _, by
        rw [role_csem]; have : level (some (.inr (.inr ⟨n, hn⟩))) = n + 2 := rfl
        omega⟩))
      iapply (recs_lev m K); iexact HR
    iexact Hat
  iintro ⟨HO, Hat, -, Hp⟩
  ihave Hp := (show _ ⊢ rHas m c ⟨n, hn⟩ from Entails.of_eq (rest_one m c (.inr ⟨n, hn⟩))) $$ Hp
  imod (Rounds.cell_close ER (Rd m) (Set.mem_univ (K (c, .inr (.inr ⟨n, hn⟩)))) (fun h => h) (R := 0 + 1)
    (duties_later m (rcvCell c ⟨n, hn⟩))) $$ [Hat] with Hz
  · isplitr; · iapply (recs_inv m K c (.inr (.inr ⟨n, hn⟩))); iexact HR
    iexact Hat
  rw [wp_ret]; imodintro
  rw [wpB_bind]
  iapply (readR_step m c ⟨n, hn⟩) $$ Hp
  iintro Hp
  iapply (block_step m c ⟨n, by omega⟩ hD (oOff c ⟨n, hn⟩) (oOff_eq c ⟨n, hn⟩) (oOff_inb c ⟨n, hn⟩) (k0_pay16 (arrived m c ⟨n, hn⟩))
    (made_received m c hn _).symm) $$ Hout
  iintro Hout
  iapply Hk
  isplitl [HO]; · iexists _; iexact HO
  isplitr [Hout]
  · iapply HS
    iapply (Entails.of_eq (recvSt_done c (Nat.lt_succ_self _)).symm)
    isplitl [Hz] <;> iassumption
  · iexact Hout

end Cert.Exchange

end
-- ==== Proof.Loop.lean ====
/-
The body's loop: one turn from what a device holds before it to what it holds after it, and the turns in a row.
-/
module

public import proofs.«01_k».proof.Proof.Moves

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CK → ℕ)

/-! ## Counts before turn `t` -/

/-- Chunks posted. -/
abbrev posted (t : ℕ) : ℕ := min t 14
/-- Chunks known to be gone from their slots. -/
abbrev gone (t : ℕ) : ℕ := min t 14 - 6
/-- The chunks whose blocks of the result are stored. -/
def Done (t : ℕ) (u : Fin 16) : Prop := u.val + 4 < t ∧ u.val < 14 ∨ 14 ≤ u.val ∧ u.val < t

/-- Chunk `t` on its way, if there is one. -/
def NextW (c : Dev nD) (t : ℕ) : sProp 𝕄 := if h : t < 16 then Flying m c ⟨t, h⟩ else Idle m c (par t)
theorem NextW_lt (c : Dev nD) {t : ℕ} (h : t < 16) : NextW m c t = Flying m c ⟨t, h⟩ := dif_pos h
theorem NextW_ge (c : Dev nD) {t : ℕ} (h : 16 ≤ t) : NextW m c t = Idle m c (par t) := dif_neg (by omega)
theorem par_add_two (t : ℕ) : par (t + 2) = par t := Fin.ext (by show (t + 2) % 2 = t % 2; omega)

/-- What device `c` holds before turn `t`. -/
def Inv (c : Dev nD) (t : ℕ) : sProp 𝕄 :=
  iprop(Owes c 7 (posted t) ∗ Sends c (gone t) (posted t) ∗ Slots c (gone t) (posted t) ∗ Recvs c (t - 4) ∗ Out m c (Done t)
    ∗ NextW m c t ∗ Idle m c (par (t + 1)) ∗ xPts m c)

/-! ## The parts of a turn -/

/-- The next chunk is fetched, if there is one. -/
theorem prefetch_step (c : Dev nD) (t : ℕ) (ht : t < 16) (Q : PUnit.{1} → sProp 𝕄) :
    Idle m c (par (t + 1)) ⊢ iprop((NextW m c (t + 1) -∗ Q ⟨⟩)
      -∗ wpB c (prefetch c ⟨t, ht⟩) Q) := by
  unfold prefetch
  by_cases h : t + 1 < 16
  · rw [dif_pos h, NextW_lt m c h]
    exact fetch_step m c ⟨t + 1, h⟩ Q
  · rw [dif_neg h, NextW_ge m c (by omega)]
    iintro H Hk
    iapply (wpB_pure c)
    iapply Hk; iexact H

/-- The chunk of six turns ago is gone, if there is one. -/
theorem leave_step (c : Dev nD) (t : ℕ) (ht : t < 14) (Q : PUnit.{1} → sProp 𝕄) :
    iprop(recs m K ∗ Owes c 7 t ∗ Sends c (t - 6) t ∗ Slots c (t - 6) t)
      ⊢ iprop(((Owes c 7 t ∗ Sends c (t + 1 - 6) t ∗ Slots c (t + 1 - 6) t) -∗ Q ⟨⟩)
        -∗ wpB c (leave ⟨t, by omega⟩ ht) Q) := by
  unfold leave
  by_cases h : 6 ≤ t
  · rw [if_pos h, show t + 1 - 6 = t - 6 + 1 by omega]
    iintro ⟨#HR, HO, HS, HP⟩ Hk
    have h1 : t - 6 < 14 := by omega
    iapply (left_step m K c (t - 6) t h1 (by omega) Q) $$ [HO HS]
    · isplitr; · iexact HR
      isplitl [HO] <;> iassumption
    iintro ⟨HO, HS, Hp⟩
    iapply Hk
    isplitl [HO]; · iexact HO
    isplitl [HS]; · iexact HS
    iapply (slot_free c (by omega))
    isplitl [HP] <;> iassumption
  · rw [if_neg h, show t + 1 - 6 = t - 6 by omega]
    iintro ⟨-, H⟩ Hk
    iapply (wpB_pure c)
    iapply Hk; iexact H

/-- The work on a chunk: its product is sent, or its block of the result stored. -/
theorem work_step (c : Dev nD) (t : ℕ) (ht : t < 16) (D : Fin 16 → Prop) (Q : PUnit.{1} → sProp 𝕄) :
    iprop(recs m K ∗ Owes c 7 (posted t) ∗ Sends c (gone t) (posted t) ∗ Slots c (gone t) (posted t) ∗ Out m c D
        ∗ Loaded m c ⟨t, ht⟩ ∗ xPts m c)
      ⊢ iprop(((Owes c 7 (posted (t + 1)) ∗ Sends c (gone (t + 1)) (posted (t + 1)) ∗ Slots c (gone (t + 1)) (posted (t + 1))
          ∗ Out m c (fun u => D u ∨ 14 ≤ t ∧ u.val = t) ∗ Loaded m c ⟨t, ht⟩ ∗ xPts m c) -∗ Q ⟨⟩)
        -∗ wpB c (work c ⟨t, ht⟩) Q) := by
  unfold work
  iintro ⟨#HR, HO, HS, HP, Hout, Hw, Hx⟩ Hk
  rw [wpB_bind]
  iapply (readX_step m c) $$ Hx
  iintro Hx
  rw [wpB_bind]
  iapply (readW_step m c ⟨t, ht⟩) $$ Hw
  iintro Hw
  by_cases h : t < 14
  · have e0 : posted t = t := min_eq_left (by omega)
    have e1 : posted (t + 1) = t + 1 := min_eq_left (by omega)
    have e2 : gone t = t - 6 := congrArg (· - 6) e0
    have e3 : gone (t + 1) = t + 1 - 6 := congrArg (· - 6) e1
    rw [dif_pos h, wpB_bind, e0, e1, e2, e3]
    iapply (leave_step m K c t h) $$ [HO HS HP]
    · isplitr; · iexact HR
      isplitl [HO]; · iexact HO
      isplitl [HS] <;> iassumption
    iintro ⟨HO, HS, HP⟩
    iapply (post_step m K c (t + 1 - 6) t h (by omega) (by omega) Q) $$ [HO HS HP]
    · isplitr; · iexact HR
      isplitl [HO]; · iexact HO
      isplitl [HS] <;> iassumption
    iintro ⟨HO, HS, HP⟩
    iapply Hk
    isplitl [HO]; · iexact HO
    isplitl [HS]; · iexact HS
    isplitl [HP]; · iexact HP
    isplitl [Hout]
    · have e : (fun u : Fin 16 => D u ∨ 14 ≤ t ∧ u.val = t) = D := funext fun u => propext ⟨fun h' => h'.resolve_right (by omega), Or.inl⟩
      rw [e]; iexact Hout
    · isplitl [Hw] <;> iassumption
  · have e1 : posted (t + 1) = posted t := (min_eq_right (by omega)).trans (min_eq_right (by omega)).symm
    have e3 : gone (t + 1) = gone t := congrArg (· - 6) e1
    rw [dif_neg h, e1, e3]
    iapply (block_step m c (D' := fun u => D u ∨ 14 ≤ t ∧ u.val = t) ⟨t, ht⟩ (fun v hv => hv.imp id fun h' => Fin.ext h'.2) (ownOff c ⟨t, ht⟩)
      (ownOff_eq c ⟨t, ht⟩ (Nat.le_of_not_lt h)) (ownOff_inb c ⟨t, ht⟩) _ (made_own m c (Nat.le_of_not_lt h)).symm) $$ Hout
    iintro Hout
    iapply Hk
    isplitl [HO]; · iexact HO
    isplitl [HS]; · iexact HS
    isplitl [HP]; · iexact HP
    isplitl [Hout]; · iexact Hout
    isplitl [Hw] <;> iassumption

/-- The block of four turns ago is taken in, if there is one. -/
theorem take_step (c : Dev nD) (t : ℕ) (ht : t < 16) (Q : PUnit.{1} → sProp 𝕄) :
    iprop(recs m K ∗ Owes c 7 (posted (t + 1)) ∗ Recvs c (t - 4) ∗ Out m c (fun u => Done t u ∨ 14 ≤ t ∧ u.val = t))
      ⊢ iprop(((Owes c 7 (posted (t + 1)) ∗ Recvs c (t + 1 - 4) ∗ Out m c (Done (t + 1))) -∗ Q ⟨⟩)
        -∗ wpB c (take c ⟨t, ht⟩) Q) := by
  unfold take
  by_cases h : 4 ≤ t
  · rw [if_pos h, show t + 1 - 4 = t - 4 + 1 by omega]
    exact receive_step m K c (t - 4) (posted (t + 1)) (by omega) (lt_min (by omega) (by omega))
      (fun v hv => by
        unfold Done at hv ⊢
        rw [Fin.ext_iff]
        show _ ∨ v.val = t - 4
        omega) Q
  · rw [if_neg h, show t + 1 - 4 = t - 4 by omega]
    have e : (fun u : Fin 16 => Done t u ∨ 14 ≤ t ∧ u.val = t) = Done (t + 1) := funext fun u => propext (by unfold Done; omega)
    rw [e]
    iintro ⟨-, H⟩ Hk
    iapply (wpB_pure c)
    iapply Hk; iexact H

/-- One turn. -/
theorem turn_step (c : Dev nD) (t : ℕ) (ht : t < 16) (Q : PUnit.{1} → sProp 𝕄) :
    iprop(recs m K ∗ Inv m c t) ⊢ iprop((Inv m c (t + 1) -∗ Q ⟨⟩) -∗ wpB c (turn c ⟨t, ht⟩) Q) := by
  unfold turn Inv
  rw [NextW_lt m c ht]
  iintro ⟨#HR, HO, HS, HP, HV, Hout, Hw, Hi, Hx⟩ Hk
  rw [wpB_bind]
  iapply (prefetch_step m c t ht) $$ Hi
  iintro Hn
  rw [wpB_bind]
  iapply (fetched_step m c ⟨t, ht⟩ 7 (posted t)) $$ [Hw HO]
  · isplitl [Hw]; · iexact Hw
    isplitl [HO]; · unfold Owes; iexact HO
    iapply (recs_lev m K); iexact HR
  iintro ⟨Hw, HO⟩
  rw [wpB_bind]
  iapply (work_step m K c t ht (Done t)) $$ [HO HS HP Hout Hw Hx]
  · isplitr; · iexact HR
    isplitl [HO]; · unfold Owes; iexact HO
    isplitl [HS]; · iexact HS
    isplitl [HP]; · iexact HP
    isplitl [Hout]; · iexact Hout
    isplitl [Hw] <;> iassumption
  iintro ⟨HO, HS, HP, Hout, Hw, Hx⟩
  iapply (take_step m K c t ht Q) $$ [HO HV Hout]
  · isplitr; · iexact HR
    isplitl [HO]; · iexact HO
    isplitl [HV] <;> iassumption
  iintro ⟨HO, HV, Hout⟩
  iapply Hk
  isplitl [HO]; · iexact HO
  isplitl [HS]; · iexact HS
  isplitl [HP]; · iexact HP
  isplitl [HV]; · iexact HV
  isplitl [Hout]; · iexact Hout
  isplitl [Hn]; · iexact Hn
  isplitl [Hw]
  · rw [show t + 1 + 1 = t + 2 from rfl, par_add_two]
    iapply (Loaded.idle m c ⟨t, ht⟩); iexact Hw
  · iexact Hx

/-- The turns in a row. -/
theorem turns_step (c : Dev nD) (n t : ℕ) (h : t + n ≤ 16) (Q : PUnit.{1} → sProp 𝕄) :
    iprop(recs m K ∗ Inv m c t) ⊢ iprop((Inv m c (t + n) -∗ Q ⟨⟩) -∗ wpB c (turns c n t) Q) := by
  induction n generalizing t with
  | zero =>
    unfold turns
    iintro ⟨-, H⟩ Hk
    iapply (wpB_pure c)
    iapply Hk; iexact H
  | succ n ih =>
    unfold turns
    iintro ⟨#HR, H⟩ Hk
    rw [wpB_bind]
    unfold turnAt
    rw [dif_pos (show t < 16 by omega)]
    have h1 : t < 16 := by omega
    iapply (turn_step m K c t h1) $$ [H]
    · isplitr; · iexact HR
      iexact H
    iintro H
    iapply (ih (t + 1) (by omega)) $$ [H]
    · isplitr; · iexact HR
      iexact H
    rw [show t + 1 + n = t + (n + 1) by omega]
    iintro H
    iapply Hk; iexact H

/-- The chunks still to leave, one after the other. -/
theorem leaves_step (c : Dev nD) (n s : ℕ) (h : s + n ≤ 14) (hs : 8 ≤ s) (Q : PUnit.{1} → sProp 𝕄) :
    iprop(recs m K ∗ Owes c 7 14 ∗ Sends c s 14 ∗ Slots c s 14)
      ⊢ iprop(((Owes c 7 14 ∗ Sends c (s + n) 14 ∗ Slots c (s + n) 14) -∗ Q ⟨⟩) -∗ wpB c (leaves n s) Q) := by
  induction n generalizing s with
  | zero =>
    unfold leaves
    iintro ⟨-, H⟩ Hk
    iapply (wpB_pure c)
    iapply Hk; iexact H
  | succ n ih =>
    unfold leaves
    iintro ⟨#HR, HO, HS, HP⟩ Hk
    rw [wpB_bind]
    unfold leftAt
    rw [dif_pos (show s < 14 by omega)]
    have h1 : s < 14 := by omega
    iapply (left_step m K c s 14 h1 h1) $$ [HO HS]
    · isplitr; · iexact HR
      isplitl [HO] <;> iassumption
    iintro ⟨HO, HS, Hp⟩
    iapply (ih (s + 1) (by omega) (by omega)) $$ [HO HS HP Hp]
    · isplitr; · iexact HR
      isplitl [HO]; · iexact HO
      isplitl [HS]; · iexact HS
      iapply (slot_free c (by omega))
      isplitl [HP] <;> iassumption
    rw [show s + 1 + n = s + (n + 1) by omega]
    iintro H
    iapply Hk; iexact H

end Cert.Exchange

end
-- ==== Proof.Flow.lean ====
/-
The body whole: the signals, the barrier, the turns, and what a device holds when it starts and when it ends.
-/
module

public import proofs.«01_k».proof.Proof.Loop

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CK → ℕ)

/-! ## The signals -/

/-- What device `c` holds for the signals from `i` on: the duty each pays, and the slots it lends with it. -/
def Signals (c : Dev nD) (i : ℕ) : sProp 𝕄 :=
  bigSep (Finset.univ.filter fun j : Fin 7 => i ≤ j.val) fun j => iprop(dutyTok ER (barCell (signalTo c j)) 0 j ∗ lends (F := F) c (signalTo c j))

omit [FloatOps F] in
/-- The first of them apart. -/
theorem Signals_step (c : Dev nD) {i : ℕ} (h : i < 7) :
    Signals (F := F) c i = iprop((dutyTok ER (barCell (signalTo c ⟨i, h⟩)) 0 ⟨i, h⟩ ∗ lends c (signalTo c ⟨i, h⟩)) ∗ Signals c (i + 1)) := by
  unfold Signals
  rw [filter_step h]
  exact BI.bigSep_insert (filter_step_notMem h)

/-- One signal. -/
theorem signal_step (c : Dev nD) (i : ℕ) (h : i < 7) (Q : PUnit.{1} → sProp 𝕄) :
    iprop(recs m K ∗ Owes c i 0 ∗ dutyTok ER (barCell (signalTo c ⟨i, h⟩)) 0 ⟨i, h⟩ ∗ lends c (signalTo c ⟨i, h⟩))
      ⊢ iprop((Owes c (i + 1) 0 -∗ Q ⟨⟩) -∗ wpB c (semSignalWord (signalTo c ⟨i, h⟩) bSem 1#32) Q) := by
  unfold Owes semSignalWord
  iintro ⟨#HR, ⟨%W, HO⟩, Ht, Hl⟩ Hk
  iapply (Rounds.wp_signal 𝒱₀ ER (Rd m) (c : Thread nD τ) none (dst := (signalTo c ⟨i, h⟩ : Thread nD τ)) (κ := K (signalTo c ⟨i, h⟩, .inl ()))
    (d := (⟨i, h⟩ : Fin 7)) ((duties_eq m (signalTo c ⟨i, h⟩) (.inl ())).symm.subset (Finset.mem_univ _)) ((amount_eq m (signalTo c ⟨i, h⟩) (.inl ()) ⟨i, h⟩).trans (by decide))
    () (O c (i + 1) 0) (O_signal c h 0)) $$ [HO Ht Hl]
  · isplitr; · iapply (recs_inv m K (signalTo c ⟨i, h⟩) (.inl ())); iexact HR
    isplitl [HO]; · iexact HO
    isplitl [Ht]; · iexact Ht
    isplitl [Hl]
    · iapply (Entails.of_eq ((payload_eq m (signalTo c ⟨i, h⟩) (.inl ()) ⟨i, h⟩).trans
        (show lends (signalFrom (signalTo c ⟨i, h⟩) ⟨i, h⟩) (signalTo c ⟨i, h⟩) = lends (F := F) c (signalTo c ⟨i, h⟩) by rw [signalFrom_signalTo])).symm)
      iexact Hl
    iapply (recs_reached m K (signalTo c ⟨i, h⟩) (.inl ())); iexact HR
  iintro HO
  rw [wp_ret]; imodintro
  iapply Hk
  iexists W; iexact HO

/-- The signals still to be given, one after the other. -/
theorem signals_step (c : Dev nD) (n i : ℕ) (h : i + n = 7) (Q : PUnit.{1} → sProp 𝕄) :
    iprop(recs m K ∗ Owes c i 0 ∗ Signals c i) ⊢ iprop((Owes c 7 0 -∗ Q ⟨⟩) -∗ wpB c (signals c n i) Q) := by
  induction n generalizing i with
  | zero =>
    unfold signals
    obtain rfl : i = 7 := h
    iintro ⟨-, HO, -⟩ Hk
    iapply (wpB_pure c)
    iapply Hk; iexact HO
  | succ n ih =>
    unfold signals
    have h1 : i < 7 := by omega
    rw [Signals_step c h1]
    iintro ⟨#HR, HO, ⟨Ht, Hl⟩, HS⟩ Hk
    rw [wpB_bind]
    unfold signalAt
    rw [dif_pos h1]
    iapply (signal_step m K c i h1) $$ [HO Ht Hl]
    · isplitr; · iexact HR
      isplitl [HO]; · iexact HO
      isplitl [Ht] <;> iassumption
    iintro HO
    iapply (ih (i + 1) (by omega)) $$ [HO HS]
    · isplitr; · iexact HR
      isplitl [HO] <;> iassumption
    iexact Hk

/-- The wait for the seven units: the partners' slots are there to be written, and the barrier's cell closes. -/
theorem barrier_step (c : Dev nD) (Q : PUnit.{1} → sProp 𝕄) :
    iprop(recs m K ∗ Owes c 7 0 ∗ atPos ER (barCell c) 0 ∅ 0 ∗ cred (tallyAt (barCell c) () 7))
      ⊢ iprop(((Owes c 7 0 ∗ (bigSep Finset.univ fun s : Fin 14 => rAny (mate c s) s) ∗ semVal (barCell c) 0) -∗ Q ⟨⟩)
        -∗ wpB c (semWaitWord bSem 7#32) Q) := by
  unfold Owes semWaitWord
  iintro ⟨#HR, ⟨%W, HO⟩, Hat, Hc⟩ Hk
  iapply (Rounds.wp_wait_rest_token 𝒱₀ ER (Rd m) (c : Thread nD τ) none (κ := K (c, .inl ()))
    (wpE_semWait_eq 𝒱₀ (c : Thread nD τ) none Set.univ) (Set.mem_univ _) () (O := O c 7 0) (W := W) (R := 0) (m := 0) (T := ∅)
    (by rw [expect_bar]; decide)) $$ [Hat Hc HO]
  · isplitr; · iapply (recs_inv m K c (.inl ())); iexact HR
    isplitl [Hc]; · iexact Hc
    isplitl [HO]; · iexact HO
    isplitr
    · iapply (mayWait c (csem (.inl ())) 7 0 (.inr ⟨le_refl _, by
        rw [role_csem]; have : level (some (.inl ())) = 1 := rfl
        omega⟩))
      iapply (recs_lev m K); iexact HR
    iexact Hat
  iintro ⟨HO, Hat, -, Hp⟩
  ihave Hp := (show _ ⊢ (bigSep Finset.univ fun s : Fin 14 => rAny (F := F) (mate c s) s) from Entails.of_eq ((rest_bar m c).trans (borrow_all c))) $$ Hp
  imod (Rounds.cell_close ER (Rd m) (Set.mem_univ (K (c, .inl ()))) (fun h => h) (R := 0 + 1) (duties_later m (barCell c))) $$ [Hat] with Hz
  · isplitr; · iapply (recs_inv m K c (.inl ())); iexact HR
    iexact Hat
  rw [wp_ret]; imodintro
  iapply Hk
  isplitl [HO]; · iexists _; iexact HO
  isplitl [Hp] <;> iassumption

/-! ## Start and end -/

/-- The duties device `c` pays: a unit to each device it signals, its own send cells', its partners' receive cells'. -/
def payToks (c : Dev nD) : sProp 𝕄 :=
  iprop((bigSep Finset.univ fun i : Fin 7 => dutyTok ER (barCell (signalTo c i)) 0 i)
    ∗ (bigSep Finset.univ fun s : Fin 14 => dutyTok ER (sndCell c s) 0 0)
    ∗ (bigSep Finset.univ fun s : Fin 14 => dutyTok ER (rcvCell (mate c s) s) 0 0))
/-- The units other devices owe the cells of device `c`. -/
def creds (c : Dev nD) : sProp 𝕄 :=
  iprop(cred (tallyAt (barCell c) () 7) ∗ bigSep Finset.univ fun s : Fin 14 => cred (tallyAt (rcvCell c s) () N))
/-- The position of device `c` in its cells: the first round of each. -/
def positions (c : Dev nD) : sProp 𝕄 :=
  iprop(atPos ER (barCell c) 0 ∅ 0 ∗ (bigSep Finset.univ fun s : Fin 14 => atPos ER (sndCell c s) 0 ∅ 0)
    ∗ (bigSep Finset.univ fun s : Fin 14 => atPos ER (rcvCell c s) 0 ∅ 0))

/-- The buffers of the body at rest: the slots for `w`, the product slots, the arrival slots. -/
def slots (c : Dev nD) : sProp 𝕄 :=
  iprop((Idle m c 0 ∗ Idle m c 1) ∗ (bigSep Finset.univ fun k : Fin 6 => pAny c k) ∗ (bigSep Finset.univ fun s : Fin 14 => rAny c s))

/-- What device `c` starts the body with. -/
def Begin (c : Dev nD) : sProp 𝕄 :=
  iprop(Owes c 0 0 ∗ positions c ∗ payToks c ∗ creds c ∗ slots m c ∗ xPts m c ∗ ∃ f, oPts c f)
/-- What device `c` ends it with: every cell closed, every slot back, the result whole. -/
def End (c : Dev nD) : sProp 𝕄 :=
  iprop(Owes c 7 14 ∗ (semVal (barCell c) 0 ∗ (bigSep Finset.univ fun s : Fin 14 => semVal (sndCell c s) 0)
      ∗ (bigSep Finset.univ fun s : Fin 14 => semVal (rcvCell c s) 0))
    ∗ slots m c ∗ xPts m c ∗ oPts c (outAt m c))

/-- The signals' duties and the arrival slots make up what the signals need. -/
theorem Signals_intro (c : Dev nD) :
    iprop((bigSep Finset.univ fun i : Fin 7 => dutyTok ER (barCell (signalTo c i)) 0 i) ∗ (bigSep Finset.univ fun s : Fin 14 => rAny (F := F) c s))
      ⊢ Signals c 0 := by
  unfold Signals
  rw [lend_all, Finset.filter_true_of_mem (fun j _ => Nat.zero_le _), bigSep_sep']

/-- What the turns start with. -/
theorem Inv_intro (c : Dev nD) :
    iprop(Owes c 7 0 ∗ (bigSep Finset.univ fun s : Fin 14 => atPos ER (sndCell c s) 0 ∅ 0)
        ∗ (bigSep Finset.univ fun s : Fin 14 => dutyTok ER (sndCell c s) 0 0)
        ∗ (bigSep Finset.univ fun s : Fin 14 => dutyTok ER (rcvCell (mate c s) s) 0 0)
        ∗ (bigSep Finset.univ fun s : Fin 14 => rAny (mate c s) s)
        ∗ (bigSep Finset.univ fun k : Fin 6 => pAny c k)
        ∗ (bigSep Finset.univ fun s : Fin 14 => atPos ER (rcvCell c s) 0 ∅ 0)
        ∗ (bigSep Finset.univ fun s : Fin 14 => cred (tallyAt (rcvCell c s) () N))
        ∗ (∃ f, oPts c f) ∗ Flying m c 0 ∗ Idle m c 1 ∗ xPts m c)
      ⊢ Inv m c 0 := by
  have hS : Sends (F := F) c (gone 0) (posted 0) = iprop((bigSep Finset.univ fun s : Fin 14 => atPos ER (sndCell c s) 0 ∅ 0)
        ∗ (bigSep Finset.univ fun s : Fin 14 => dutyTok ER (sndCell c s) 0 0)
        ∗ (bigSep Finset.univ fun s : Fin 14 => dutyTok ER (rcvCell (mate c s) s) 0 0)
        ∗ (bigSep Finset.univ fun s : Fin 14 => rAny (mate c s) s)) := by
    rw [← bigSep_sep', ← bigSep_sep', ← bigSep_sep']
    exact bigSep_congr fun s _ => sendSt_todo c (Nat.zero_le _) (Nat.zero_le _)
  have hP : Slots (F := F) c (gone 0) (posted 0) = bigSep Finset.univ fun k : Fin 6 => pAny c k :=
    bigSep_congr fun k _ => slotSt_free c fun s _ h => absurd h (Nat.not_lt_zero _)
  have hV : Recvs (F := F) c (0 - 4) = iprop((bigSep Finset.univ fun s : Fin 14 => atPos ER (rcvCell c s) 0 ∅ 0)
        ∗ (bigSep Finset.univ fun s : Fin 14 => cred (tallyAt (rcvCell c s) () N))) := by
    rw [← bigSep_sep']
    exact bigSep_congr fun s _ => recvSt_todo c (Nat.zero_le _)
  unfold Inv
  rw [hS, hP, hV, NextW_lt m c (show 0 < 16 by decide)]
  iintro ⟨HO, H1, H2, H3, H4, HP, H5, H6, ⟨%f, Ho⟩, HF, HI, Hx⟩
  isplitl [HO]; · iexact HO
  isplitl [H1 H2 H3 H4]
  · isplitl [H1]; · iexact H1
    isplitl [H2]; · iexact H2
    isplitl [H3] <;> iassumption
  isplitl [HP]; · iexact HP
  isplitl [H5 H6]
  · isplitl [H5] <;> iassumption
  isplitl [Ho]
  · unfold Out
    iexists f
    isplitr; rotate_left
    · iexact Ho
    · ipureintro
      intro i hi
      unfold Done at hi
      omega
  isplitl [HF]; · iexact HF
  isplitl [HI]; · iexact HI
  iexact Hx

/-- Every chunk gone. -/
theorem Sends_end (c : Dev nD) : Sends (F := F) c 14 14 = bigSep Finset.univ fun s : Fin 14 => semVal (sndCell c s) 0 :=
  bigSep_congr fun s _ => sendSt_gone c s.isLt
/-- Every slot free. -/
theorem Slots_end (c : Dev nD) : Slots (F := F) c 14 14 = bigSep Finset.univ fun k : Fin 6 => pAny c k :=
  bigSep_congr fun k _ => slotSt_free c fun s h h' => absurd h' (by omega)
/-- Every chunk taken in. -/
theorem Recvs_end (c : Dev nD) : Recvs (F := F) c 14
    = iprop((bigSep Finset.univ fun s : Fin 14 => semVal (rcvCell c s) 0) ∗ (bigSep Finset.univ fun s : Fin 14 => rAny c s)) := by
  rw [← bigSep_sep']
  exact bigSep_congr fun s _ => recvSt_done c s.isLt

/-- The result whole. -/
theorem Out_end (c : Dev nD) {D : Fin 16 → Prop} (hD : ∀ u, D u) : Out m c D ⊢ oPts c (outAt m c) := by
  unfold Out
  iintro ⟨%f, %hf, Ho⟩
  obtain rfl := hf.all m hD
  iexact Ho

/-- The body asks which device it runs on. -/
theorem device_step (c : Dev nD) (Q : Dev nD → sProp 𝕄) : Q c ⊢ wpB c (Prog.lift .deviceId : Step F (Dev nD)) Q := by
  show Q c ⊢ wp frame (wpE (defs₀ (F := F)) 𝒱₀ (c : Thread nD τ) none) Set.univ (.op .deviceId .ret) Q
  rw [wp_deviceId, wp_ret]
  exact BI.fupd_intro

/-- The whole body. -/
theorem flow_step (c : Dev nD) (Q : PUnit.{1} → sProp 𝕄) :
    iprop(recs m K ∗ Begin m c) ⊢ iprop((End m c -∗ Q ⟨⟩) -∗ wpB c flow Q) := by
  unfold flow Begin End positions payToks creds slots
  iintro ⟨#HR, HO, ⟨HaB, HaS, HaV⟩, ⟨HtB, HtS, HtV⟩, ⟨HcB, HcV⟩, ⟨⟨HI0, HI1⟩, HP, HV⟩, Hx, Ho⟩ Hk
  rw [wpB_bind]
  iapply (device_step c)
  rw [wpB_bind]
  ihave HI0 := (show Idle m c 0 ⊢ Idle m c (par (0 : Fin 16).val) from BI.Entails.refl _) $$ HI0
  iapply (fetch_step m c 0) $$ HI0
  iintro HF
  rw [wpB_bind]
  ihave HS := (Signals_intro c) $$ [HtB HV]
  · isplitl [HtB] <;> iassumption
  iapply (signals_step m K c 7 0 rfl) $$ [HO HS]
  · isplitr; · iexact HR
    isplitl [HO] <;> iassumption
  iintro HO
  rw [wpB_bind]
  iapply (barrier_step m K c) $$ [HO HaB HcB]
  · isplitr; · iexact HR
    isplitl [HO]; · iexact HO
    isplitl [HaB] <;> iassumption
  iintro ⟨HO, HB, Hz⟩
  rw [wpB_bind]
  ihave HI := (Inv_intro m c) $$ [HO HaS HtS HtV HB HP HaV HcV Ho HF HI1 Hx]
  · isplitl [HO]; · iexact HO
    isplitl [HaS]; · iexact HaS
    isplitl [HtS]; · iexact HtS
    isplitl [HtV]; · iexact HtV
    isplitl [HB]; · iexact HB
    isplitl [HP]; · iexact HP
    isplitl [HaV]; · iexact HaV
    isplitl [HcV]; · iexact HcV
    isplitl [Ho]; · iexact Ho
    isplitl [HF]; · iexact HF
    isplitl [HI1] <;> iassumption
  iapply (turns_step m K c 16 0 (le_refl _)) $$ [HI]
  · isplitr; · iexact HR
    iexact HI
  iintro HI
  ihave HI := (show Inv m c (0 + 16) ⊢ iprop(Owes c 7 14 ∗ Sends c 8 14 ∗ Slots c 8 14 ∗ Recvs c 12 ∗ Out m c (Done 16)
    ∗ Idle m c 0 ∗ Idle m c 1 ∗ xPts m c) from by unfold Inv; rw [NextW_ge m c (show 16 ≤ 0 + 16 by decide)]; exact BI.Entails.refl _) $$ HI
  icases HI with ⟨HO, HS, HP, HV, Hout, HI0, HI1, Hx⟩
  rw [wpB_bind]
  iapply (receive_step m K c 12 14 (by decide) (by decide) (D := Done 16) (D' := Done 17)
    (fun v hv => by unfold Done at hv ⊢; rw [Fin.ext_iff]; show _ ∨ v.val = 12; omega)) $$ [HO HV Hout]
  · isplitr; · iexact HR
    isplitl [HO]; · iexact HO
    isplitl [HV] <;> iassumption
  iintro ⟨HO, HV, Hout⟩
  rw [wpB_bind]
  iapply (receive_step m K c 13 14 (by decide) (by decide) (D := Done 17) (D' := fun _ => True)
    (fun v hv => by unfold Done; rw [Fin.ext_iff]; show _ ∨ v.val = 13; omega)) $$ [HO HV Hout]
  · isplitr; · iexact HR
    isplitl [HO]; · iexact HO
    isplitl [HV] <;> iassumption
  iintro ⟨HO, HV, Hout⟩
  iapply (leaves_step m K c 6 8 (le_refl _) (le_refl _)) $$ [HO HS HP]
  · isplitr; · iexact HR
    isplitl [HO]; · iexact HO
    isplitl [HS] <;> iassumption
  iintro ⟨HO, HS, HP⟩
  ihave Hout := (Out_end m c (fun _ => trivial)) $$ Hout
  ihave HS := (Entails.of_eq (Sends_end c)) $$ HS
  ihave HP := (Entails.of_eq (Slots_end c)) $$ HP
  ihave HV := (Entails.of_eq (Recvs_end c)) $$ HV
  icases HV with ⟨HzV, HV⟩
  iapply Hk
  isplitl [HO]; · iexact HO
  isplitl [Hz HS HzV]
  · isplitl [Hz]; · iexact Hz
    isplitl [HS] <;> iassumption
  isplitl [HI0 HI1 HP HV]
  · isplitl [HI0 HI1]
    · isplitl [HI0] <;> iassumption
    isplitl [HP] <;> iassumption
  isplitl [Hx] <;> iassumption

end Cert.Exchange

end
-- ==== Proof.Slots.lean ====
/-
The scratch buffers cut into the slots the body uses, and put together again.
-/
module

public import proofs.«01_k».proof.Proof.Flow
public import Idealize.ShloMosaic.Lib.Ring

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## Buffers cut along a key -/

section Cut
variable {ℓ : Loc nD τ sig} {B : Type} [Fintype B] [DecidableEq B] (I : B → Finset (Idx ℓ)) (key : Idx ℓ → B) (h : ∀ b x, x ∈ I b ↔ key x = b)

omit [FloatOps F] [Fintype B] [DecidableEq B] in
include h in
theorem parts_disjoint (b b' : B) (hb : b ≠ b') : Disjoint (I b) (I b') :=
  Finset.disjoint_left.mpr fun x hx hx' => hb (((h b x).mp hx).symm.trans ((h b' x).mp hx'))
omit [FloatOps F] [DecidableEq B] in
include h in
theorem parts_cover : Finset.univ.biUnion I = Finset.univ :=
  Finset.eq_univ_iff_forall.mpr fun x => Finset.mem_biUnion.mpr ⟨key x, Finset.mem_univ _, (h _ x).mpr rfl⟩

omit [FloatOps F] in
include h in
/-- A buffer held whole is held part by part, -/
theorem cut : (iprop(∃ f : Buf (Elt F) ℓ, ℓ ↦{fullShare} f) : sProp 𝕄) ⊢ bigSep Finset.univ fun b => iprop(∃ f : Buf (Elt F) ℓ, ℓ ↦[I b]{fullShare} f) := by
  iintro ⟨%f, H⟩
  iapply (show (ℓ ↦{fullShare} f : sProp 𝕄) ⊢ bigSep Finset.univ fun b => iprop(∃ f : Buf (Elt F) ℓ, ℓ ↦[I b]{fullShare} f) from
    (Entails.of_eq (Ring.pointsTo_blocks I (parts_disjoint I key h) (parts_cover I key h) f)).trans (bigSep_mono fun b _ =>
      show (ℓ ↦[I b]{fullShare} f : sProp 𝕄) ⊢ iprop(∃ f : Buf (Elt F) ℓ, ℓ ↦[I b]{fullShare} f) from by
        iintro H; iexists f; iexact H)) $$ H
omit [FloatOps F] in
include h in
/-- and held part by part it is held whole. -/
theorem join (f₀ : Buf (Elt F) ℓ) :
    (bigSep Finset.univ fun b => (iprop(∃ f : Buf (Elt F) ℓ, ℓ ↦[I b]{fullShare} f) : sProp 𝕄)) ⊢ iprop(∃ f : Buf (Elt F) ℓ, ℓ ↦{fullShare} f) :=
  Ring.pointsTo_blocks_join_exists I (parts_disjoint I key h) (parts_cover I key h) f₀

end Cut

/-! ## The elements of a slot -/

theorem bSlot_set (i : Fin 2) : (bSlot i).view.set = (bRect i).set := (View.set_reshape _ _).trans (View.set_slice_whole cc0_scratch0 (bRect i))
theorem pSlot_set (k : Fin 6) : (pSlot k).view.set = (pRect k).set := (View.set_reshape _ _).trans (View.set_slice_whole cc0_scratch1 (pRect k))
theorem rSlot_set (j : Fin 7) (h : Fin 2) : (rSlot j h).view.set = (rRect j h).set :=
  (View.set_reshape _ _).trans (View.set_slice_whole cc0_scratch2 (rRect j h))

/-- The slot for `w` an element belongs to. -/
def bOf (x : S2x4096x512.Idx) : Fin 2 := ⟨(x 0).val, (x 0).isLt⟩
theorem mem_bSlot (i : Fin 2) (x : S2x4096x512.Idx) : x ∈ (bSlot i).view.set ↔ bOf x = i := by
  rw [bSlot_set, Rect.mem_set_unit, Fin.ext_iff]
  constructor
  · intro h
    have h0 : i.val ≤ (x 0).val ∧ (x 0).val < i.val + 1 := h 0
    show (x 0).val = i.val
    omega
  · intro h a
    have h : (x 0).val = i.val := h
    have h1 : (x 1).val < 4096 := (x 1).isLt
    have h2 : (x 2).val < 512 := (x 2).isLt
    match a with
    | ⟨0, _⟩ => show i.val ≤ (x 0).val ∧ (x 0).val < i.val + 1; omega
    | ⟨1, _⟩ => show 0 ≤ (x 1).val ∧ (x 1).val < 0 + 4096; omega
    | ⟨2, _⟩ => show 0 ≤ (x 2).val ∧ (x 2).val < 0 + 512; omega
/-- The product slot an element belongs to. -/
def pOf (x : S6x512x512.Idx) : Fin 6 := ⟨(x 0).val, (x 0).isLt⟩
theorem mem_pSlot (k : Fin 6) (x : S6x512x512.Idx) : x ∈ (pSlot k).view.set ↔ pOf x = k := by
  rw [pSlot_set, Rect.mem_set_unit, Fin.ext_iff]
  constructor
  · intro h
    have h0 : k.val ≤ (x 0).val ∧ (x 0).val < k.val + 1 := h 0
    show (x 0).val = k.val
    omega
  · intro h a
    have h : (x 0).val = k.val := h
    have h1 : (x 1).val < 512 := (x 1).isLt
    have h2 : (x 2).val < 512 := (x 2).isLt
    match a with
    | ⟨0, _⟩ => show k.val ≤ (x 0).val ∧ (x 0).val < k.val + 1; omega
    | ⟨1, _⟩ => show 0 ≤ (x 1).val ∧ (x 1).val < 0 + 512; omega
    | ⟨2, _⟩ => show 0 ≤ (x 2).val ∧ (x 2).val < 0 + 512; omega
/-- The chunk an element of the arrival buffer belongs to. -/
def arrivalOf (x : S7x2x512x512.Idx) : Fin 14 := ⟨2 * (x 0).val + (x 1).val, by
  have h0 : (x 0).val < 7 := (x 0).isLt
  have h1 : (x 1).val < 2 := (x 1).isLt
  omega⟩
theorem mem_rSlot (s : Fin 14) (x : S7x2x512x512.Idx) : x ∈ (rSlot (hop s) (par s.val)).view.set ↔ arrivalOf x = s := by
  rw [rSlot_set, Rect.mem_set_unit, Fin.ext_iff]
  have l1 : (x 1).val < 2 := (x 1).isLt
  constructor
  · intro h
    have h0 : s.val / 2 ≤ (x 0).val ∧ (x 0).val < s.val / 2 + 1 := h 0
    have h1 : s.val % 2 ≤ (x 1).val ∧ (x 1).val < s.val % 2 + 1 := h 1
    show 2 * (x 0).val + (x 1).val = s.val
    omega
  · intro h a
    have h : 2 * (x 0).val + (x 1).val = s.val := h
    have h2 : (x 2).val < 512 := (x 2).isLt
    have h3 : (x 3).val < 512 := (x 3).isLt
    match a with
    | ⟨0, _⟩ => show s.val / 2 ≤ (x 0).val ∧ (x 0).val < s.val / 2 + 1; omega
    | ⟨1, _⟩ => show s.val % 2 ≤ (x 1).val ∧ (x 1).val < s.val % 2 + 1; omega
    | ⟨2, _⟩ => show 0 ≤ (x 2).val ∧ (x 2).val < 0 + 512; omega
    | ⟨3, _⟩ => show 0 ≤ (x 3).val ∧ (x 3).val < 0 + 512; omega

/-! ## The scratch buffers and their slots -/

/-- A slot for `w` with whatever it holds. -/
def bAny (c : Dev nD) (i : Fin 2) : sProp 𝕄 := iprop(∃ f, bPts (F := F) c i f)
/-- The scratch buffers, each with whatever it holds. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

omit [FloatOps F] in
theorem cut_b (c : Dev nD) : iprop(∃ f : Buf (Elt F) ((c : Thread nD τ).loc cc0_scratch0), ((c : Thread nD τ).loc cc0_scratch0) ↦{fullShare} f)
    ⊢ (bigSep Finset.univ fun i : Fin 2 => bAny c i : sProp 𝕄) :=
  cut (ℓ := (c : Thread nD τ).loc cc0_scratch0) (fun i : Fin 2 => (bSlot i).view.set) bOf mem_bSlot
omit [FloatOps F] in
theorem join_b (c : Dev nD) (f₀ : Buf (Elt F) ((c : Thread nD τ).loc cc0_scratch0)) : (bigSep Finset.univ fun i : Fin 2 => bAny c i : sProp 𝕄)
    ⊢ iprop(∃ f : Buf (Elt F) ((c : Thread nD τ).loc cc0_scratch0), ((c : Thread nD τ).loc cc0_scratch0) ↦{fullShare} f) :=
  join (ℓ := (c : Thread nD τ).loc cc0_scratch0) (fun i : Fin 2 => (bSlot i).view.set) bOf mem_bSlot f₀
omit [FloatOps F] in
theorem cut_p (c : Dev nD) : iprop(∃ f : Buf (Elt F) ((c : Thread nD τ).loc cc0_scratch1), ((c : Thread nD τ).loc cc0_scratch1) ↦{fullShare} f)
    ⊢ (bigSep Finset.univ fun k : Fin 6 => pAny c k : sProp 𝕄) :=
  cut (ℓ := (c : Thread nD τ).loc cc0_scratch1) (fun k : Fin 6 => (pSlot k).view.set) pOf mem_pSlot
omit [FloatOps F] in
theorem join_p (c : Dev nD) (f₀ : Buf (Elt F) ((c : Thread nD τ).loc cc0_scratch1)) : (bigSep Finset.univ fun k : Fin 6 => pAny c k : sProp 𝕄)
    ⊢ iprop(∃ f : Buf (Elt F) ((c : Thread nD τ).loc cc0_scratch1), ((c : Thread nD τ).loc cc0_scratch1) ↦{fullShare} f) :=
  join (ℓ := (c : Thread nD τ).loc cc0_scratch1) (fun k : Fin 6 => (pSlot k).view.set) pOf mem_pSlot f₀
omit [FloatOps F] in
theorem cut_r (c : Dev nD) : iprop(∃ f : Buf (Elt F) ((c : Thread nD τ).loc cc0_scratch2), ((c : Thread nD τ).loc cc0_scratch2) ↦{fullShare} f)
    ⊢ (bigSep Finset.univ fun s : Fin 14 => rAny c s : sProp 𝕄) :=
  cut (ℓ := (c : Thread nD τ).loc cc0_scratch2) (fun s : Fin 14 => (rSlot (hop s) (par s.val)).view.set) arrivalOf mem_rSlot
omit [FloatOps F] in
theorem join_r (c : Dev nD) (f₀ : Buf (Elt F) ((c : Thread nD τ).loc cc0_scratch2)) : (bigSep Finset.univ fun s : Fin 14 => rAny c s : sProp 𝕄)
    ⊢ iprop(∃ f : Buf (Elt F) ((c : Thread nD τ).loc cc0_scratch2), ((c : Thread nD τ).loc cc0_scratch2) ↦{fullShare} f) :=
  join (ℓ := (c : Thread nD τ).loc cc0_scratch2) (fun s : Fin 14 => (rSlot (hop s) (par s.val)).view.set) arrivalOf mem_rSlot f₀

omit [FloatOps F] in
theorem bigSep_two (Φ : Fin 2 → sProp 𝕄) : bigSep Finset.univ Φ = iprop(Φ 0 ∗ Φ 1) := bigSep_univ_eq_bigSepL [0, 1] (by decide) (by decide) Φ

/-- Device `c`'s copy of `w`, whole. -/
def wholeW (c : Dev nD) : sProp 𝕄 := ((c : Thread nD τ).loc main_arg1) ↦{fullShare} wbuf m c

omit [FloatOps F] in
/-- It is held in two shares, one for each slot. -/
theorem wholeW_halves (c : Dev nD) : wholeW m c ⊣⊢ iprop(wPts m c 0 Finset.univ ∗ wPts m c 1 Finset.univ) := by
  unfold wholeW wPts
  exact pointsTo_share (PosShare.mem_left_op_right fullShare)

/-- The scratch buffers, the two semaphores of the slots for `w`, and `w` make up the slots at rest, -/
theorem slots_intro (c : Dev nD) :
    iprop(scratch c ∗ (semVal ((c : Thread nD τ), .dma (wSem 0)) 0 ∗ semVal ((c : Thread nD τ), .dma (wSem 1)) 0) ∗ wholeW m c) ⊢ slots m c := by
  unfold scratch slots Idle
  iintro ⟨⟨H0, H1, H2⟩, ⟨Hs0, Hs1⟩, Hw⟩
  ihave H0 := ((cut_b c).trans (Entails.of_eq (bigSep_two fun i => bAny c i))) $$ H0
  unfold bAny
  icases H0 with ⟨Hb0, Hb1⟩
  ihave H1 := (cut_p c) $$ H1
  ihave H2 := (cut_r c) $$ H2
  ihave Hw := (wholeW_halves m c).1 $$ Hw
  icases Hw with ⟨Hw0, Hw1⟩
  isplitl [Hb0 Hb1 Hs0 Hs1 Hw0 Hw1]
  · isplitl [Hb0 Hs0 Hw0]
    · isplitl [Hb0]; · iexact Hb0
      isplitl [Hs0] <;> iassumption
    · isplitl [Hb1]; · iexact Hb1
      isplitl [Hs1] <;> iassumption
  isplitl [H1] <;> iassumption
/-- and come back from them. -/
theorem slots_elim (c : Dev nD) :
    slots m c ⊢ iprop(scratch c ∗ (semVal ((c : Thread nD τ), .dma (wSem 0)) 0 ∗ semVal ((c : Thread nD τ), .dma (wSem 1)) 0) ∗ wholeW m c) := by
  unfold scratch slots Idle
  iintro ⟨⟨⟨Hb0, Hs0, Hw0⟩, ⟨Hb1, Hs1, Hw1⟩⟩, H1, H2⟩
  ihave H0 := (show iprop((∃ f, bPts (F := F) c 0 f) ∗ ∃ f, bPts c 1 f) ⊢ _ from
    (Entails.of_eq (bigSep_two fun i => bAny c i).symm).trans (join_b c (m ((c : Thread nD τ).loc cc0_scratch0)))) $$ [Hb0 Hb1]
  · isplitl [Hb0] <;> iassumption
  ihave H1 := (join_p c (m ((c : Thread nD τ).loc cc0_scratch1))) $$ H1
  ihave H2 := (join_r c (m ((c : Thread nD τ).loc cc0_scratch2))) $$ H2
  ihave Hw := (wholeW_halves m c).2 $$ [Hw0 Hw1]
  · isplitl [Hw0] <;> iassumption
  isplitl [H0 H1 H2]
  · isplitl [H0]; · iexact H0
    isplitl [H1] <;> iassumption
  isplitl [Hs0 Hs1]
  · isplitl [Hs0] <;> iassumption
  iexact Hw

end Cert.Exchange

end
-- ==== Proof.Launch.lean ====
/-
What the launch makes of the semaphores and of the ghost state: the cells, the tokens dealt to who pays them, the credits.
-/
module

public import proofs.«01_k».proof.Proof.Slots

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (ownSems0 launchCred owing)

variable {F : FTy → Type} [FloatOps F]

local notation "𝕄" => MT nD τ sig Unit (Elt F) ℕ UU ℕ

variable (m : (ℓ : Loc nD τ sig) → Buf (Elt F) ℓ)

/-! ## The semaphores -/

/-- The kernel's own semaphores: the two of the slots for `w`, and the exchange's twenty-eight. -/
abbrev osem : Fin 2 ⊕ (Fin 14 ⊕ Fin 14) → SemLoc sig
  | .inl i => .dma (wSem i)
  | .inr k => csem (.inr k)

theorem wSem_injective : Function.Injective wSem := by decide
theorem osem_injective : Function.Injective osem := by
  rintro (i | k) (i' | k') h
  · exact congrArg _ (wSem_injective (SemLoc.dma.inj h))
  · exact absurd ((role_wSem i).symm.trans ((congrArg role h).trans (role_csem (.inr k')))) (fun h => by cases h)
  · exact absurd ((role_wSem i').symm.trans ((congrArg role h.symm).trans (role_csem (.inr k)))) (fun h => by cases h)
  · exact congrArg _ (Sum.inr.inj (csem_injective h))
theorem ownSemFacts : Pipeline.OwnSemFacts cfg0.spec osem where
  isScoped := by decide
  inj := osem_injective
  disj := by decide

omit [FloatOps F] in
/-- The cells' family, kind by kind. -/
theorem bigSep_cells (Φ : CK → sProp 𝕄) : bigSep Finset.univ Φ = iprop(Φ (.inl ()) ∗ (bigSep Finset.univ fun s : Fin 14 => Φ (.inr (.inl s)))
    ∗ (bigSep Finset.univ fun s : Fin 14 => Φ (.inr (.inr s)))) := by
  rw [BI.bigSep_univ_sum, BI.bigSep_univ_sum, bigSep_univ_of_subsingleton ()]; rfl

/-- The semaphores of the slots for `w`, at zero. -/
def wSems (c : Dev nD) : sProp 𝕄 := iprop(semVal ((c : Thread nD τ), .dma (wSem 0)) 0 ∗ semVal ((c : Thread nD τ), .dma (wSem 1)) 0)

omit [FloatOps F] in
theorem ownSems0_eq (c : Dev nD) : (ownSems0 (Ix := Unit) (Name := ℕ) (U := UU) (Lvl := ℕ) (Val := Elt F) (τ := τ) osem c : sProp 𝕄)
    = iprop(wSems c ∗ (bigSep Finset.univ fun s : Fin 14 => semVal (sndCell c s) 0) ∗ (bigSep Finset.univ fun s : Fin 14 => semVal (rcvCell c s) 0)) := by
  unfold ownSems0 wSems
  rw [BI.bigSep_univ_sum, BI.bigSep_univ_sum, bigSep_two]; rfl
omit [FloatOps F] in
/-- The barrier's semaphore is the one that outlives the kernel. -/
theorem unscopedSems0_eq (c : Dev nD) : (unscopedSems0 c : sProp 𝕄) = semVal (barCell c) 0 := by
  unfold unscopedSems0; rw [bigSep_eq_bigSepL_of_eq [SemLoc.reg bSem] (by decide) (by decide)]; rfl

omit [FloatOps F] in
theorem sems0_eq (c : Dev nD) :
    iprop(ownSems0 (Ix := Unit) (Name := ℕ) (U := UU) (Lvl := ℕ) (Val := Elt F) (τ := τ) osem c ∗ unscopedSems0 c)
      ⊢ (iprop(wSems c ∗ bigSep Finset.univ fun k : CK => semVal (kcell (c, k)) 0) : sProp 𝕄) := by
  rw [ownSems0_eq, unscopedSems0_eq, bigSep_cells]
  iintro ⟨⟨HW, HS, HV⟩, HB⟩
  isplitl [HW]; · iexact HW
  isplitl [HB]; · iexact HB
  isplitl [HS] <;> iassumption

/-! ## The ghost state at launch -/

def cells : Finset (GSem nD τ sig) := Finset.univ.map ⟨kcell, kcell_injective⟩

/-- The duties: seven of each barrier cell, one of each other cell. -/
abbrev dutyOf (ck : Dev nD × (Fin 7 ⊕ (Fin 14 ⊕ Fin 14))) : GSem nD τ sig × ℕ × Fin 7 := match ck.2 with
  | .inl i => (barCell ck.1, 0, i)
  | .inr k => (kcell (ck.1, .inr k), 0, 0)
theorem dutyOf_injective : Function.Injective dutyOf := by
  rintro ⟨c, i | k⟩ ⟨c', i' | k'⟩ h
  · have h1 := kcell_injective (congrArg Prod.fst h)
    have h2 : i = i' := congrArg (fun x : GSem nD τ sig × ℕ × Fin 7 => x.2.2) h
    exact Prod.ext (Prod.mk.inj h1).1 (congrArg Sum.inl h2)
  · exact absurd (Prod.mk.inj (kcell_injective (congrArg Prod.fst h))).2 (fun h => by cases h)
  · exact absurd (Prod.mk.inj (kcell_injective (congrArg Prod.fst h))).2 (fun h => by cases h)
  · have h1 := kcell_injective (congrArg Prod.fst h)
    exact Prod.ext (Prod.mk.inj h1).1 (congrArg Sum.inr (Sum.inr.inj (Prod.mk.inj h1).2))
def duties : Finset (GSem nD τ sig × ℕ × Fin 7) := Finset.univ.map ⟨dutyOf, dutyOf_injective⟩

def u₀ : UU := (initOf (Pipeline.cells cfgs cellOf_inj) (Pipeline.launchToks cfgs cellOf_inj), (initOf cells duties, 1))

omit [FloatOps F] in
/-- The launch's element is the pipeline's and the exchange's. -/
theorem ownU_parts (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The tokens of the duties of device `c`'s own cells. -/
def ownToks (c : Dev nD) : sProp 𝕄 :=
  iprop((bigSep Finset.univ fun i : Fin 7 => dutyTok ER (barCell c) 0 i)
    ∗ (bigSep Finset.univ fun s : Fin 14 => dutyTok ER (sndCell c s) 0 0) ∗ (bigSep Finset.univ fun s : Fin 14 => dutyTok ER (rcvCell c s) 0 0))

/-- What device `c` is dealt. -/
def Dealt (c : Dev nD) : sProp 𝕄 :=
  iprop((bigSep Finset.univ fun k : CK => roundState ER (Rd (F := F) m) (kcell (c, k)) 0)
    ∗ (bigSep Finset.univ fun k : CK => iprop(atPos ER (kcell (c, k)) 0 ∅ 0 ∗ reached ER (kcell (c, k)) 0)) ∗ ownToks c)

theorem fund_cells : BI.own (ER (initOf cells duties)) ⊢ (|==> bigSep Finset.univ (Dealt m) : sProp 𝕄) := by
  have hX (Φ : GSem nD τ sig → sProp 𝕄) : bigSep cells Φ = bigSep Finset.univ fun c : Dev nD => bigSep Finset.univ fun k : CK => Φ (kcell (c, k)) := by
    unfold cells; rw [bigSep_map, BI.bigSep_univ_prod]; rfl
  have hT : bigSep duties (fun x => (dutyTok ER x.1 x.2.1 x.2.2 : sProp 𝕄)) = bigSep Finset.univ fun c : Dev nD => ownToks c := by
    unfold duties; rw [bigSep_map, BI.bigSep_univ_prod]
    exact bigSep_congr fun c _ => by unfold ownToks; rw [BI.bigSep_univ_sum, BI.bigSep_univ_sum]; rfl
  iintro HX
  imod (Rounds.fund ER (Rd m) cells duties) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold Dealt; simp only [bigSep_sep']
  isplitl [Hst]; · iexact Hst
  isplitl [Hat Hr]
  · isplitl [Hat] <;> iassumption
  iexact Htok

/-! ## The cells made, and the tokens dealt to who pays -/

theorem core_alloc (c : Dev nD) :
    iprop(ownSems0 (Ix := Unit) (Name := ℕ) (U := UU) (Lvl := ℕ) (Val := Elt F) (τ := τ) osem c ∗ unscopedSems0 c ∗ Dealt m c)
      ⊢ |={Set.univ}=> iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ ownToks c ∗ wSems c) := by
  unfold Dealt
  iintro ⟨Hos, Hus, Hst, Hat, Htok⟩
  ihave Hv := (sems0_eq c) $$ [Hos Hus]
  · isplitl [Hos] <;> iassumption
  icases Hv with ⟨HW, Hv⟩
  imod (show iprop((bigSep Finset.univ fun k : CK => semVal (kcell (c, k)) 0) ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- Every cell's invariant and its first round. -/
def records (K : Dev nD × CK → ℕ) : sProp 𝕄 :=
  iprop((bigSep Finset.univ fun ck : Dev nD × CK => cellInv ER (Rd (F := F) m) (K ck) (kcell ck))
    ∗ bigSep Finset.univ fun ck : Dev nD × CK => reached ER (kcell ck) 0)
instance records_persistent (K : Dev nD × CK → ℕ) : BI.Persistent (records m K : sProp 𝕄) := by unfold records; infer_instance

/-- What is device `c`'s own at the start. -/
def Own (c : Dev nD) : sProp 𝕄 := iprop(positions c ∗ payToks c ∗ wSems c)
/-- What device `c` goes on with. -/
def Given (c : Dev nD) : sProp 𝕄 := iprop(∃ K, records m K ∗ Own c)

omit [FloatOps F] in
/-- The tokens go to the devices that pay: a barrier's to those that signal it, a receive cell's to the partner. -/
theorem toks_dealt : (bigSep Finset.univ fun c : Dev nD => (ownToks c : sProp 𝕄)) ⊢ bigSep Finset.univ fun c : Dev nD => payToks c := by
  have hb : (bigSep Finset.univ fun c : Dev nD => bigSep Finset.univ fun i : Fin 7 => (dutyTok ER (barCell c) 0 i : sProp 𝕄))
      = bigSep Finset.univ fun c : Dev nD => bigSep Finset.univ fun i : Fin 7 => dutyTok ER (barCell (signalTo c i)) 0 i := by
    rw [bigSep_univ_comm, bigSep_congr fun i _ => BI.bigSep_univ_equiv (signalling i) fun c : Dev nD => (dutyTok ER (barCell c) 0 i : sProp 𝕄), bigSep_univ_comm]
    rfl
  have hr : (bigSep Finset.univ fun c : Dev nD => bigSep Finset.univ fun s : Fin 14 => (dutyTok ER (rcvCell c s) 0 0 : sProp 𝕄))
      = bigSep Finset.univ fun c : Dev nD => bigSep Finset.univ fun s : Fin 14 => dutyTok ER (rcvCell (mate c s) s) 0 0 := by
    rw [bigSep_univ_comm, bigSep_congr fun s _ => BI.bigSep_univ_equiv (mating s) fun c : Dev nD => (dutyTok ER (rcvCell c s) 0 0 : sProp 𝕄), bigSep_univ_comm]
    rfl
  unfold ownToks payToks
  rw [bigSep_sep', bigSep_sep', bigSep_sep', bigSep_sep', hb, hr]

omit [FloatOps F] in
/-- A family with something that can be had as often as wanted at every member. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem given_intro (K : Dev nD × CK → ℕ) (c : Dev nD) : iprop(records m K ∗ Own c) ⊢ Given m c := by
  unfold Given
  iintro H; iexists K; iexact H

theorem regroup :
    (bigSep Finset.univ fun c : Dev nD => iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ ownToks c ∗ wSems c) : sProp 𝕄)
      ⊢ bigSep Finset.univ (Given m) := by
  rw [bigSep_sep', bigSep_sep', bigSep_sep', ← BI.bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← BI.bigSep_univ_prod (fun ck : Dev nD × CK => (reached ER (kcell ck) 0 : sProp 𝕄))]
  iintro ⟨HI, ⟨Hat, #HR⟩, Htok, HW⟩
  ihave HK := (BI.bigSep_exists_pi Finset.univ (fun (ck : Dev nD × CK) (κ : ℕ) => (cellInv ER (Rd m) κ (kcell ck) : sProp 𝕄))) $$ HI
  icases HK with ⟨%K, #HI⟩
  ihave Htok := (toks_dealt (F := F)) $$ Htok
  iapply (bigSep_beside (R := records m K) fun c _ => given_intro m K c)
  isplitr
  · unfold records; isplitl; · iexact HI
    iexact HR
  · iapply (show iprop((bigSep Finset.univ fun c : Dev nD => bigSep Finset.univ fun k : CK => (atPos ER (kcell (c, k)) 0 ∅ 0 : sProp 𝕄))
        ∗ (bigSep Finset.univ fun c : Dev nD => payToks c) ∗ (bigSep Finset.univ fun c : Dev nD => wSems c)) ⊢ bigSep Finset.univ fun c : Dev nD => Own c from by
      rw [← bigSep_sep', ← bigSep_sep']
      exact bigSep_mono fun c _ => show iprop((bigSep Finset.univ fun k : CK => (atPos ER (kcell (c, k)) 0 ∅ 0 : sProp 𝕄)) ∗ payToks c ∗ wSems c) ⊢ Own c from
        Entails.of_eq (by unfold Own positions; rw [bigSep_cells]))
    isplitl [Hat]; · iexact Hat
    isplitl [Htok] <;> iassumption

/-- All devices' cells are made at once. -/
theorem glob : (bigSep Finset.univ fun c => iprop(ownSems0 (Ix := Unit) (Name := ℕ) (U := UU) (Lvl := ℕ) (Val := Elt F) (τ := τ) osem c ∗ unscopedSems0 c ∗ Dealt m c) : sProp 𝕄)
    ⊢ |={Set.univ}=> bigSep Finset.univ (Given m) :=
  ((bigSep_mono fun c _ => core_alloc m c).trans (bigSep_fupd _ _)).trans (BI.fupd_mono (regroup m))

/-! ## The credit -/

/-- What a device owes at launch. -/
abbrev O₀ (c : Dev nD) : CellTallies nD τ sig Unit := O c 0 0

theorem kcell_eq_iff (c c' : Dev nD) (k k' : CK) : kcell (c, k) = kcell (c', k') ↔ c = c' ∧ k = k' :=
  kcell_injective.eq_iff.trans Prod.mk_inj

theorem O₀_at (c d : Dev nD) (k : CK) : O₀ d (kcell (c, k)) ()
    = (∑ s : Fin 14, if mate d s = c ∧ k = .inr (.inr s) then N else 0) + ∑ i : Fin 7, if signalTo d i = c ∧ k = .inl () then 1 else 0 := by
  unfold O₀ O
  rw [Pi.add_apply, Finsupp.add_apply, Finset.sum_apply, Finset.sum_apply, Finsupp.finset_sum_apply, Finsupp.finset_sum_apply,
    Finset.filter_true_of_mem (fun s _ => Nat.zero_le _), Finset.filter_true_of_mem (fun s _ => Nat.zero_le _)]
  refine congrArg₂ (· + ·) (Finset.sum_congr rfl fun s _ => ?_) (Finset.sum_congr rfl fun i _ => ?_)
  · rw [tallyAt_apply]
    refine if_congr ?_ rfl rfl
    rw [kcell_eq_iff]
    exact ⟨fun h => ⟨h.1.1.symm, h.1.2⟩, fun h => ⟨⟨h.1.symm, h.2⟩, rfl⟩⟩
  · rw [tallyAt_apply]
    refine if_congr ?_ rfl rfl
    rw [kcell_eq_iff]
    exact ⟨fun h => ⟨h.1.1.symm, h.1.2⟩, fun h => ⟨⟨h.1.symm, h.2⟩, rfl⟩⟩

theorem owed_bar (c : Dev nD) : ∑ d : Dev nD, O₀ d (barCell c) () = 7 := by
  rw [Finset.sum_congr rfl fun d _ => O₀_at c d (.inl ())]
  have h1 : ∀ d, (∑ s : Fin 14, if mate d s = c ∧ (Sum.inl () : CK) = .inr (.inr s) then N else 0) = 0 := fun d =>
    Finset.sum_eq_zero fun s _ => if_neg fun h => by cases h.2
  rw [Finset.sum_congr rfl fun d _ => by rw [h1 d, Nat.zero_add]]
  clear h1
  revert c
  decide +kernel
theorem owed_rcv (c : Dev nD) (s : Fin 14) : ∑ d : Dev nD, O₀ d (rcvCell c s) () = N := by
  rw [Finset.sum_congr rfl fun d _ => O₀_at c d (.inr (.inr s)), Finset.sum_eq_single (mate c s), Finset.sum_eq_single s]
  · rw [if_pos ⟨mate_mate c s, rfl⟩, Finset.sum_eq_zero fun i _ => if_neg fun h => by cases h.2]
    rfl
  · intro s' _ h
    exact if_neg fun h' => h (Sum.inr.inj (Sum.inr.inj h'.2)).symm
  · exact fun h => absurd (Finset.mem_univ _) h
  · intro d _ h
    refine (congrArg₂ (· + ·) ?_ (Finset.sum_eq_zero fun i _ => if_neg fun h => by cases h.2)).trans (Nat.add_zero 0)
    refine Finset.sum_eq_zero fun s' _ => if_neg fun h' => h ?_
    obtain rfl : s = s' := Sum.inr.inj (Sum.inr.inj h'.2)
    rw [← h'.1, mate_mate]
  · exact fun h => absurd (Finset.mem_univ _) h

/-- The cells other devices pay. -/
abbrev credSem : Unit ⊕ Fin 14 → SemLoc sig
  | .inl _ => csem (.inl ())
  | .inr s => csem (.inr (.inr s))
theorem credSem_injective : Function.Injective credSem := by
  rintro (_ | s) (_ | s') h
  · rfl
  · exact absurd (@csem_injective (.inl ()) (.inr (.inr s')) h) (fun h => by cases h)
  · exact absurd (@csem_injective (.inr (.inr s)) (.inl ()) h) (fun h => by cases h)
  · exact congrArg _ (Sum.inr.inj (Sum.inr.inj (csem_injective h)))

omit [FloatOps F] in
theorem launch_credit (g : GSem nD τ sig) (n : ℕ) (h : ∑ d : Dev nD, O₀ d g () = n) :
    tallyOn g (launchCredit (owing O₀) 0 g) = (tallyAt g () n : CellTallies nD τ sig Unit) := by
  unfold tallyAt; refine congrArg _ (Finsupp.ext fun u => ?_); cases u
  rw [Pipeline.launchCredit_owing, Finsupp.single_eq_same, h]

omit [FloatOps F] in
/-- The launch's credit gives each device what the others owe its cells. -/
theorem creds_intro (c : Dev nD) : (launchCred O₀ c : sProp 𝕄) ⊢ creds c := by
  unfold launchCred creds
  refine (bigSep_subset (Finset.subset_univ (Finset.univ.map ⟨credSem, credSem_injective⟩))).trans ?_
  rw [bigSep_map, BI.bigSep_univ_sum, bigSep_univ_of_subsingleton ()]
  refine Entails.of_eq (congrArg₂ (fun P Q : sProp 𝕄 => iprop(P ∗ Q)) ?_ (bigSep_congr fun s _ => ?_))
  · exact congrArg cred (launch_credit (barCell c) 7 (owed_bar c))
  · exact congrArg cred (launch_credit (rcvCell c s) N (owed_rcv c s))

end Cert.Exchange

end
-- ==== Proof.Run.lean ====
/-
The whole program's run: every device's body by its rules, from the launch to a final memory that holds the results.
-/
module

public import proofs.«01_k».proof.Proof.Launch
public import Idealize.ShloMosaic.Lib.Pipeline.CollectiveSegs

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What the body starts from and ends with -/

/-- What device `c`'s body starts from, its scratch buffers apart. -/
def Start (c : Dev nD) : sProp 𝕄 := iprop((∃ K, recs m K ∗ Own c) ∗ creds c ∗ wholeW m c)
def Φ₀ (c : Dev nD) : sProp 𝕄 := iprop(Start m c ∗ scratch c)
/-- After the body every semaphore is at zero again. -/
def Φ₁ (c : Dev nD) : sProp 𝕄 :=
  iprop(scratch c ∗ (wSems c ∗ (bigSep Finset.univ fun s : Fin 14 => semVal (sndCell c s) 0) ∗ (bigSep Finset.univ fun s : Fin 14 => semVal (rcvCell c s) 0))
    ∗ semVal (barCell c) 0 ∗ wholeW m c)

/-- The body's proof data: device `c` leaves its rows of `x` as they are and its result in the window for it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O c 0 0
    | ⟨_ + 1, _⟩ => O c 7 14

theorem share_eq (c : Dev nD) (w : Fin cfg0.W) : (dats m ρ 0 c).share w = fullShare := by
  unfold Dat.share; split <;> rfl
theorem fetch_x (t : Fin cfg0.N) : (cfg0.win (0 : Fin 2)).fetch t = true := by rw [fin_N0 t]; rfl
theorem before_x (c : Dev nD) (d) : (dats m ρ 0 c).before (0 : Fin 2) t0_0 d = xstg m c := by
  unfold Dat.before; rw [if_pos (fetch_x t0_0)]; rfl

omit [FloatOps F] in
/-- A whole buffer owned at contents `X`. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- Window `b` of device `c` holds `X`. -/
abbrev holds (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def Before (c : Dev nD) : sProp 𝕄 :=
  iprop(Φ₀ m c ∗ (dats m ρ 0 c).owesAt () t0_0.castSucc
    ∗ (∃ d, holds c cc0_stg0_0 ((dats m ρ 0 c).before (0 : Fin 2) t0_0 d))
    ∗ (∃ d, holds c cc0_stg1_0 ((dats m ρ 0 c).before (1 : Fin 2) t0_0 d)))
def After (c : Dev nD) : sProp 𝕄 :=
  iprop(Φ₁ m c ∗ (dats m ρ 0 c).owesAt () t0_0.succ ∗ holds c cc0_stg0_0 (xstg m c) ∗ holds c cc0_stg1_0 (outAt m c))

/-- The body takes what it starts from to what it ends with. -/
theorem body_step (c : Dev nD) : Before m ρ c ⊢ wpB c flow (fun _ => After m ρ c) := by
  unfold Before Φ₀ Start Own
  iintro ⟨⟨⟨⟨%K, #HR, Hat, Htok, HW⟩, Hcr, Hw⟩, Hscr⟩, Ho, ⟨%d0, %g0, %hg0, Hx⟩, ⟨%d1, %g1, %hg1, Hout⟩⟩
  have hx : g0 = xstg m c := hg0.trans (before_x m ρ c d0)
  subst hx
  unfold Dat.owesAt Pipeline.owesWithin
  icases Ho with ⟨%W, %hW, HO⟩
  ihave Hsl := (slots_intro m c) $$ [Hscr HW Hw]
  · isplitl [Hscr]; · iexact Hscr
    isplitl [HW]; · unfold wSems; iexact HW
    iexact Hw
  iapply (flow_step m K c (fun _ => After m ρ c)) $$ [HO Hat Htok Hcr Hsl Hx Hout]
  · isplitr; · iexact HR
    unfold Begin
    isplitl [HO]
    · unfold Owes; iexists W; iexact HO
    isplitl [Hat]; · iexact Hat
    isplitl [Htok]; · iexact Htok
    isplitl [Hcr]; · iexact Hcr
    isplitl [Hsl]; · iexact Hsl
    isplitl [Hx]
    · unfold xPts; iexact Hx
    · iexists g1; unfold oPts; iexact Hout
  · unfold End After Φ₁
    iintro ⟨HO, ⟨HzB, HzS, HzV⟩, Hsl, Hx, Hout⟩
    ihave Hsl := (slots_elim m c) $$ Hsl
    icases Hsl with ⟨Hscr, HW, Hw⟩
    isplitl [Hscr HzB HzS HzV HW Hw]
    · isplitl [Hscr]; · iexact Hscr
      isplitl [HW HzS HzV]
      · isplitl [HW]; · unfold wSems; iexact HW
        isplitl [HzS] <;> iassumption
      isplitl [HzB] <;> iassumption
    isplitl [HO]
    · unfold Owes
      icases HO with ⟨%W', HO⟩
      unfold Dat.owesAt Pipeline.owesWithin
      iexists W'
      isplitr; · ipureintro; exact fun _ _ => Or.inl trivial
      iexact HO
    isplitl [Hx]
    · iexists _; isplitr; · (ipureintro; rfl)
      unfold xPts; iexact Hx
    · iexists _; isplitr; · (ipureintro; rfl)
      unfold oPts; iexact Hout

/-- The body's obligation. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  show Before m ρ c ⊢ wp frame (wpE (defs₀ (F := F)) 𝒱₀ c none) Set.univ
    (cc0_body xM (Memref.isWhole_whole _) wM (Memref.isWhole_whole _) oM (Memref.isWhole_whole _)
      bM (Memref.isWhole_whole _) pM (Memref.isWhole_whole _) rM (Memref.isWhole_whole _) cc0_scratch3 cc0_scratch4 cc0_scratch5) (fun _ => After m ρ c)
  rw [body_eq_flow]
  exact body_step m ρ c

/-! ## The launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ Given m c)
      ⊢ |={Set.univ}=> iprop(Start m c ∗ emp) := by
  rw [Pipeline.unscopedRestP_none, unscopedRest0_eq]
  iintro ⟨Hw, #Hlev, Hcr, -, HG⟩
  ihave Hc := (creds_intro (F := F) c) $$ Hcr
  imodintro
  unfold Start Given records
  icases HG with ⟨%K, ⟨#HI, #Hr⟩, HO⟩
  isplitl
  · isplitl [HO]
    · iexists K
      isplitr
      · unfold recs
        isplitr; · iexact HI
        isplitr; · iexact Hr
        iexact Hlev
      · iexact HO
    isplitl [Hc]; · iexact Hc
    unfold wholeW; iexact Hw
  · iempintro

theorem first_intro (c : Dev nD) :
    iprop(Start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

theorem last_elim (c : Dev nD) :
    (dats m ρ 0 c).Φ (Fin.last cfg0.N) ⊢ iprop((unscopedSems0 c ∗ wholeW m c) ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁ scratch
  iintro ⟨Hr, HS, HB, Hw⟩
  isplitl [HB Hw]
  · isplitl [HB] <;> iassumption
  isplitl [HS] <;> iassumption

theorem waits (c : Dev nD) : (levAts L lv : sProp 𝕄) ⊢ Pipeline.cellsWaits cfgs (dats m ρ) () 0 c :=
  Pipeline.cellsWaits_intro cfgs (dats m ρ) () 0 c fun w s t => by
    have h : level (role (.dma ((cfg0.win w).sem s))) = 0 := by revert s; revert w; decide
    rcases t with ⟨_ | _, ht⟩
    · exact mayWait c _ 0 0 (.inl h)
    · exact mayWait c _ 7 14 (.inl h)

/-! ## The run -/

/-- What a final memory holds on device `c`: the rows of `x` and the result in their arrays, and `w` unchanged. -/
def Final (s : MemSt nD τ sig (Elt F)) (c : Dev nD) : Prop :=
  (∀ w : Fin cfg0.W, s.mem ((cfg0.win w).arr.view.loc (c : Thread nD τ)) = (dats m ρ 0 c).arrAt w cfg0.N)
    ∧ s.mem ((c : Thread nD τ).loc main_arg1) = wbuf m c

/-- From any memory with every semaphore at zero, every fair execution of the eight devices' programs ends, with every
    device's result in its array, `x` and `w` as they were, and every semaphore at zero. -/
theorem run_main : θ_run defs (onTc (τ := τ) (main (F := F))) (s₀ m ρ) (fun r => (∀ c, Final m ρ r.2 c) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun c => O_end c)
    (L := L) (lv := lv) (hL := L_of_ne) (hwaits := waits m ρ)
    (G := Dealt m) (G' := Given m) (u₀ := u₀)
    (hu₀ := by
      unfold u₀
      iintro Hu
      ihave H := (ownU_parts _ _) $$ Hu
      icases H with ⟨HP, HX⟩
      imod (fund_cells m) $$ HX with HG
      imodintro
      isplitl [HP] <;> iassumption)
    (hglob := glob m)
    (hA := fun _ _ => rfl) (hpf := fun _ k => k.elim0)
    (X := Start m) (Y := fun c => iprop(unscopedSems0 c ∗ wholeW m c)) (Z := fun _ => iprop(emp))
    (hX := start_intro m ρ) (hin := first_intro m ρ) (hout := last_elim m ρ)
    (QY := fun c s => (∀ sm : SemLoc sig, sm.isScoped .tc = false → s.sem ((c.tc : Thread nD τ), sm) = 0)
      ∧ s.mem ((c : Thread nD τ).loc main_arg1) = wbuf m c)
    (hY := fun c s' => by
      iintro ⟨⟨Hu, Hw⟩, -, HSI⟩
      ihave H := (pointsTo_read_all (Finset.univ : Finset Unit) (fun _ => (c : Thread nD τ).loc main_arg1) (fun _ => wbuf m c) s') $$ [Hw HSI]
      · isplitl [Hw]
        · iapply (show wholeW m c ⊢ (bigSep Finset.univ fun _ : Unit => ((c : Thread nD τ).loc main_arg1) ↦{fullShare} wbuf m c : sProp 𝕄) from by
            rw [bigSep_univ_of_subsingleton ()]; exact BI.Entails.refl _) $$ Hw
        · iexact HSI
      icases H with ⟨%hw, HSI⟩
      imod (Pipeline.unscopedSems0_read (X := unscopedSems0 c) (c := c) BI.fupd_intro s') $$ [Hu HSI] with ⟨%hz, HSI⟩
      · isplitl [Hu] <;> iassumption
      imodintro
      isplitr
      · ipureintro; exact ⟨hz, hw () (Finset.mem_univ _)⟩
      · iexact HSI)
    (hQ := fun _ h hs => ⟨fun c => ⟨(h c).1, (h c).2.2.2⟩, sem_eq_zero hs fun c => (h c).2.2.1⟩)

/-- The rows of `x` are as they were. -/
theorem final_x {s : MemSt nD τ sig (Elt F)} {c : Dev nD} (h : Final m ρ s c) :
    s.mem ((c : Thread nD τ).loc main_arg0) = m ((c : Thread nD τ).loc main_arg0) :=
  (h.1 (0 : Fin 2)).trans ((dats (F := F) m ρ 0 c).arrAt_in (0 : Fin 2) rfl _)

end Cert.Exchange

end
-- ==== Proof.Gelu.lean ====
/-
The function both programs apply to every element of the product, on the extended reals, and the one law that brings
their two spellings of it together.
-/
module

public import Idealize.ShloMosaic.PureOps.Ideal
public import Idealize.ShloMosaic.Lib.StackMember

@[expose] public section

noncomputable section

namespace Cert.Exchange

open Idealize.ShloMosaic
open Idealize.ShloMosaic.ValueIdx

/-- The bend: `y` and a multiple of its cube, the cube taken first. -/
def bent (y : EReal) : EReal := y + Ideal.ofBits .f32 0x3D372713#32 * (y * y * y)
/-- Half of `y`, times one more than the hyperbolic tangent of a multiple of the bend. -/
def gelu (y : EReal) : EReal :=
  Ideal.ofBits .f32 0x3F000000#32 * y * (Ideal.ofBits .f32 0x3F800000#32 + Ideal.tanh (Ideal.ofBits .f32 0x3F4C422A#32 * bent y))

/-- Multiplying by `y` three times one after the other is multiplying by its cube. -/
theorem bent_eq (y : EReal) :
    y + Ideal.ofBits .f32 0x3D372713#32 * y * y * y = bent y := by
  unfold bent; rw [mul_assoc, mul_assoc, mul_assoc]

/-- The same function, the bend spelt with the three factors one after the other. -/
theorem gelu_eq (y : EReal) :
    Ideal.ofBits .f32 0x3F000000#32 * y * (Ideal.ofBits .f32 0x3F800000#32
      + Ideal.tanh (Ideal.ofBits .f32 0x3F4C422A#32 * (y + Ideal.ofBits .f32 0x3D372713#32 * y * y * y))) = gelu y := by
  unfold gelu; rw [bent_eq]

/-- A row of one matrix times a column of another. -/
def dot {M K N : ℕ} (A : FVec Ideal ⟨2, ![M, K]⟩ .f32) (B : FVec Ideal ⟨2, ![K, N]⟩ .f32) (r : Fin M) (c : Fin N) : EReal :=
  ∑ k : Fin K, A (ix2 r k) * B (ix2 k c)

/-- A product added to zeros, at an element. -/
theorem matmul_at {M K N : ℕ} (A : FVec Ideal ⟨2, ![M, K]⟩ .f32) (B : FVec Ideal ⟨2, ![K, N]⟩ .f32) (r : Fin M) (c : Fin N) :
    matmul (DotDims.plain M K N) none A B (constant ⟨2, ![M, N]⟩ .f32 0x00000000#32) (ix2 r c) = dot A B r c := by
  rw [matmul_zero_eq_dotGeneral]; exact StackMember.dotGeneral_plain_apply none A B r c

end Cert.Exchange

end
-- ==== Proof.Values.lean ====
/-
The result on the extended reals, element by element: each is made from one row of x and one column of w.
-/
module

public import proofs.«01_k».proof.Proof.Result
public import proofs.«01_k».proof.Proof.Gelu

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable (m : (ℓ : Loc nD τ sig) → Buf (Elt Ideal) ℓ)

/-! ## The two payloads -/

/-- The product a chunk is, before it is sent: at an element, whatever the shape it is kept in. -/
theorem product_at (x : Vec Ideal S512x4096 .f32) (v : Vec Ideal S1x4096x512 .f32) (a b : Fin 512) :
    k0_pay1 x v (Shape.reshapeEquiv squeezes_S1x512x512_S512x512.numel_eq (ix2 a b))
      = dot x (shapeCast S4096x512 v shapeCasts_S1x4096x512_S4096x512) a b := by
  rw [← matmul_at]
  unfold k0_pay1
  show matmul (F := Ideal) (φ₁ := .f32) (φ₂ := .f32) (DotDims.plain 512 4096 512) none (shapeCast (α := EReal) S512x4096 x shapeCasts_S512x4096_S512x4096) _ _
    (Shape.reshapeEquiv _ (Shape.reshapeEquiv _ (ix2 a b))) = _
  rw [Shape.reshapeEquiv_reshapeEquiv, Shape.reshapeEquiv_self]
  congr 1
  funext i
  exact congrArg x (Shape.reshapeEquiv_self _ i)

/-- What is made of a received block. -/
theorem received_at (r : Vec Ideal S1x1x512x512 .bf16) (i : S512x512.Idx) :
    k0_pay16 r i = gelu (shapeCast S512x512 r shapeCasts_S1x1x512x512_S512x512 i) :=
  gelu_eq _

/-- What is made of a device's own chunk. -/
theorem own_at (x : Vec Ideal S512x4096 .f32) (v : Vec Ideal S1x4096x512 .f32) (a b : Fin 512) :
    k0_pay45 x v (ix2 a b) = gelu (dot x (shapeCast S4096x512 v shapeCasts_S1x4096x512_S4096x512) a b) := by
  rw [← matmul_at]
  refine (gelu_eq _).trans (congrArg gelu ?_)
  congr 1
  funext i
  exact congrArg x (Shape.reshapeEquiv_self _ i)

/-- Device `c`'s rows of `x`, and its copy of `w`, as numbers. -/
abbrev rowsOf (c : Dev nD) : FVec Ideal S512x4096 .f32 := m ((c : Thread nD τ).loc main_arg0)
abbrev colsOf (c : Dev nD) : FVec Ideal S4096x8192 .f32 := m ((c : Thread nD τ).loc main_arg1)

/-! ## The blocks they are made of -/

/-- Chunk `t`'s columns of `w` are those of the device it is for. -/
theorem wOff_eq (c : Dev nD) (t : Fin 16) : wOff c t = ![0, 1024 * (peer c (roundOf t)).val + 512 * (t.val % 2)] := by
  revert c t; decide +kernel
/-- Chunk `t`'s columns. -/
theorem chunk_at (c : Dev nD) (t : Fin 16) (k : Fin 4096) (b : Fin 512) (b' : Fin 8192)
    (hb : b'.val = 1024 * (peer c (roundOf t)).val + 512 * (t.val % 2) + b.val) :
    shapeCast S4096x512 (chunk m c t) shapeCasts_S1x4096x512_S4096x512 (ix2 k b) = colsOf m c (ix2 k b') := by
  unfold shapeCast chunk
  rw [Shape.reshapeEquiv_reshapeEquiv, Shape.reshapeEquiv_self]
  show wbuf m c _ = _
  refine congrArg (wbuf m c) (funext fun a => Fin.ext ?_)
  match a with
  | ⟨0, _⟩ =>
    show wOff c t 0 + 1 * k.val = k.val
    rw [wOff_eq]
    show 0 + 1 * k.val = k.val
    omega
  | ⟨1, _⟩ =>
    show wOff c t 1 + 1 * b.val = b'.val
    rw [wOff_eq, hb]
    show 1024 * (peer c (roundOf t)).val + 512 * (t.val % 2) + 1 * b.val = _
    omega

/-- The staged rows of `x` are the device's rows of `x`. -/
theorem xstg_eq (c : Dev nD) : xstg m c = rowsOf m c := by
  unfold xstg
  funext i
  show m ((c : Thread nD τ).loc main_arg0) _ = _
  refine congrArg (m ((c : Thread nD τ).loc main_arg0)) (funext fun a => Fin.ext ?_)
  match a with
  | ⟨0, _⟩ => show 0 * 512 + 1 * (i 0).val = (i 0).val; omega
  | ⟨1, _⟩ => show 0 * 4096 + 1 * (i 1).val = (i 1).val; omega

theorem mate_eq (c : Dev nD) (s : Fin 14) : mate c s = peer c (roundOf ⟨s.val, by omega⟩) := by revert c s; decide +kernel
theorem peer_mate (c : Dev nD) (s : Fin 14) : peer (mate c s) (roundOf ⟨s.val, by omega⟩) = c := by revert c s; decide +kernel
theorem peer_own (c : Dev nD) (u : Fin 16) (h : 14 ≤ u.val) : peer c (roundOf u) = c := by revert c u; decide +kernel

/-- A chunk's block of the result: rows of `x` from the device it is with, columns of `w` of this device. -/
theorem made_at (c : Dev nD) (u : Fin 16) (a b : Fin 512) (b' : Fin 8192) (hb : b'.val = 1024 * c.val + 512 * (u.val % 2) + b.val) :
    made m c u (ix2 a b) = gelu (∑ k : Fin 4096, rowsOf m (peer c (roundOf u)) (ix2 a k) * colsOf m (peer c (roundOf u)) (ix2 k b')) := by
  by_cases h : u.val < 14
  · obtain ⟨s, hs⟩ : ∃ s : Fin 14, u = ⟨s.val, Nat.lt_trans s.isLt (by decide)⟩ := ⟨⟨u.val, h⟩, rfl⟩
    subst hs
    rw [made_received m c s.isLt, received_at]
    refine congrArg gelu ?_
    show arrived m c s (Shape.reshapeEquiv _ (ix2 a b)) = _
    unfold arrived
    rw [Shape.reshapeEquiv_reshapeEquiv, Shape.reshapeEquiv_self]
    unfold sent
    rw [product_at, ← mate_eq c s, xstg_eq]
    unfold dot
    refine Finset.sum_congr rfl fun k _ => ?_
    rw [chunk_at m (mate c s) _ k b b' (by rw [peer_mate]; exact hb)]
  · rw [made_own m c (by omega), own_at, peer_own c u (by omega), xstg_eq]
    unfold dot
    refine congrArg gelu (Finset.sum_congr rfl fun k _ => ?_)
    rw [chunk_at m c u k b b' (by rw [peer_own c u (by omega)]; exact hb)]

/-- Device `c`'s result at row `r`, column `l`: row `r` of `x`, from the device that has it, times column `1024 c + l` of that
    device's `w`. -/
theorem outAt_at (c : Dev nD) (r : Fin 4096) (l : Fin 1024) (p : Dev nD) (a : Fin 512) (l' : Fin 8192)
    (hr : r.val = 512 * p.val + a.val) (hl : l'.val = 1024 * c.val + l.val) :
    outAt m c (ix2 r l) = gelu (∑ k : Fin 4096, rowsOf m p (ix2 a k) * colsOf m p (ix2 k l')) := by
  obtain ⟨h0, h1⟩ := (unitAt_eq_iff c (ix2 r l) (unitAt c (ix2 r l))).mp rfl
  change r.val / 512 = _ at h0
  change l.val / 512 = _ at h1
  have hp : peer c (roundOf (unitAt c (ix2 r l))) = p := Fin.ext (by omega)
  unfold outAt
  have hi : inner (ix2 r l) = ix2 a ⟨l.val % 512, Nat.mod_lt _ (by decide)⟩ := by
    refine funext fun d => Fin.ext ?_
    match d with
    | ⟨0, _⟩ => show r.val % 512 = a.val; omega
    | ⟨1, _⟩ => rfl
  rw [hi, made_at m c _ a _ l' (by show l'.val = 1024 * c.val + 512 * _ + l.val % 512; omega), hp]

end Cert.Exchange

end
-- ==== Proof.Reference.lean ====
/-
The one-device program: what its run leaves, and its result element by element.
-/
module

public import proofs.«01_k».proof.Proof.Gelu
public import proofs.«01_k».proof.Proof.Gen.ReferenceIdeal
public import Idealize.ShloMosaic.Lib.StableHlo.Run

@[expose] public section

noncomputable section

namespace Cert.Exchange.Whole

open Cert.ReferenceIdeal Cert.ReferenceIdeal.Gen
open Idealize.ShloMosaic Idealize.ShloMosaic.TcCoe Idealize.ShloMosaic.StableHlo Idealize.SL.Sem
open Idealize.ShloMosaic.ValueIdx

variable {F : FTy → Type} [FloatOps F]

/-- One number in every place of the result. -/
abbrev every (b : BitVec 32) : FVec F S4096x8192 .f32 := broadcastInDim S4096x8192 ![] bcast_S_S4096x8192 (constant S_ .f32 b)

/-- What the program applies to the product. -/
abbrev onProduct (y : FVec F S4096x8192 .f32) : FVec F S4096x8192 .f32 :=
  mulf (mulf (every 0x3F000000#32) y)
    (addf (every 0x3F800000#32) (Host.tanh (mulf (every 0x3F4C422A#32) (addf y (mulf (every 0x3D372713#32) (mulf (mulf y y) y))))))

/-- The result, from the two arguments. -/
abbrev result (x : FVec F S4096x4096 .f32) (w : FVec F S4096x8192 .f32) : FVec F S4096x8192 .f32 :=
  onProduct (Host.dotGeneral dot_S4096x4096_S4096x8192_S4096x8192_1_0_0_1_n_n none x w)

/-- The program's operations, in order. -/
abbrev steps : List (HloOp τ sig (Elt F)) :=
  [ binary main_arg0 main_arg1 main_v0 (fun l r => Host.dotGeneral dot_S4096x4096_S4096x8192_S4096x8192_1_0_0_1_n_n none l r),
    nullary main_cst (constant S_ .f32 0x3F000000#32),
    unary main_cst main_v1 (broadcastInDim S4096x8192 ![] bcast_S_S4096x8192),
    binary main_v1 main_v0 main_v2 mulf,
    binary main_v0 main_v0 main_v3 mulf,
    binary main_v3 main_v0 main_v4 mulf,
    nullary main_cst_0 (constant S_ .f32 0x3D372713#32),
    unary main_cst_0 main_v5 (broadcastInDim S4096x8192 ![] bcast_S_S4096x8192),
    binary main_v5 main_v4 main_v6 mulf,
    binary main_v0 main_v6 main_v7 addf,
    nullary main_cst_1 (constant S_ .f32 0x3F4C422A#32),
    unary main_cst_1 main_v8 (broadcastInDim S4096x8192 ![] bcast_S_S4096x8192),
    binary main_v8 main_v7 main_v9 mulf,
    unary main_v9 main_v10 Host.tanh,
    nullary main_cst_2 (constant S_ .f32 0x3F800000#32),
    unary main_cst_2 main_v11 (broadcastInDim S4096x8192 ![] bcast_S_S4096x8192),
    binary main_v11 main_v10 main_v12 addf,
    binary main_v2 main_v12 main_v13 mulf ]

theorem main_steps (c : Dev nD) : main (F := F) c = seq steps := rfl

theorem after_result (V : Valuation τ sig (Elt F)) :
    after steps V (main_v13 : DevRef τ sig) = result (V (main_arg0 : DevRef τ sig)) (V (main_arg1 : DevRef τ sig)) := by
  after_results
theorem after_arg0 (V : Valuation τ sig (Elt F)) : after steps V (main_arg0 : DevRef τ sig) = V (main_arg0 : DevRef τ sig) := by
  after_results
theorem after_arg1 (V : Valuation τ sig (Elt F)) : after steps V (main_arg1 : DevRef τ sig) = V (main_arg1 : DevRef τ sig) := by
  after_results

theorem no_scopedRefs : (Finset.univ.filter fun b : Ref sig .tc => b.isScoped) = ∅ := by decide
theorem no_scopedSems : (Finset.univ.filter fun sm : SemLoc sig => sm.isScoped .tc) = ∅ := by decide

theorem steps_local : (steps : List (HloOp τ sig (Elt F))).Forall fun op => op.bufs ⊆ tcRefs τ sig := by
  simp only [List.forall_cons, List.Forall, binary_bufs_sub, unary_bufs_sub, nullary_bufs_sub, and_self]

/-- From any memory with every semaphore at zero the program ends, its result in its array and its arguments as they were. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13) = result (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v13).trans (after_result _), (h c main_arg0).trans (after_arg0 _), (h c main_arg1).trans (after_arg1 _)⟩)
    (run_seq no_scopedRefs no_scopedSems defs main (fun _ => steps) main_steps (fun _ => steps_local) m ρ)

/-- On the extended reals, an element of the result. -/
theorem result_at (x : FVec Ideal S4096x4096 .f32) (w : FVec Ideal S4096x8192 .f32) (r : Fin 4096) (c : Fin 8192) :
    result x w (ix2 r c) = gelu (dot x w r c) := by
  have h : Host.dotGeneral dot_S4096x4096_S4096x8192_S4096x8192_1_0_0_1_n_n none x w (ix2 r c) = dot x w r c :=
    StackMember.dotGeneral_plain_apply none x w r c
  rw [← h]
  rfl

end Cert.Exchange.Whole

end
-- ==== Proof.Claims.lean ====
/-
The claims: the frames of the three programs, and that every device's result is its block of the one-device program's.
-/
module

public import proofs.«01_k».proof.Defs
public import proofs.«01_k».proof.Proof.Run
public import proofs.«01_k».proof.Proof.Values
public import proofs.«01_k».proof.Proof.Reference
public import proofs.«01_k».proof.Proof.Gen.Kernel
public import Idealize.ShloMosaic.Lib.Quiescent

@[expose] public section

set_option maxRecDepth 16384

noncomputable section

namespace Cert.Exchange

open Cert.KernelIdeal Cert.KernelIdeal.Gen
open Idealize.ShloMosaic Idealize.ShloMosaic.TcCoe Idealize.SL.Sem
open Idealize.ShloMosaic.ValueIdx

/-- Over any float values the eight devices' programs run, and leave the arguments as they were and the semaphores at zero. -/
theorem frame_any {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  (θ_run (defs (F := F)) _ _).mono (fun _ h => ⟨fun c => ⟨final_x m ρ (h.1 c), (h.1 c).2⟩, h.2⟩) (run_main m ρ)

/-- The kernel bodies of the two programs are the same, over any float values; -/
theorem bodies_same {F : FTy → Type} [FloatOps F] : Cert.Kernel.defs₀ (F := F) = defs₀ (F := F) := by
  unfold Cert.Kernel.defs₀ defs₀
  congr 1
  funext a b
  rcases a with ⟨_ | n, h⟩
  · exact rfl
  · exact absurd h (Nat.not_lt.2 (Nat.le_add_left 1 n))

/-- so their tables of bodies are. -/
theorem tables_same {F : FTy → Type} [FloatOps F] : Cert.Kernel.defs (F := F) = defs (F := F) :=
  congrArg (Pipeline.defs pcfgs) bodies_same

/-- So the program as printed runs on bit patterns, -/
theorem frame_kernel : Cert.quiescent_Kernel := fun m ρ _ => by
  rw [tables_same]
  exact frame_any (F := Bits) m ρ

/-- and the program read on the extended reals. -/
theorem frame_ideal : Cert.quiescent_KernelIdeal := fun m ρ _ => frame_any (F := Ideal) m ρ

/-- The result's array, once the run is over, is what the body made. -/
theorem final_out {F : FTy → Type} [FloatOps F] (m : (ℓ : Loc nD τ sig) → Buf (Elt F) ℓ) (ρ : Dev nD → PrngReg)
    {s : MemSt nD τ sig (Elt F)} {c : Dev nD} (h : Final m ρ s c) :
    (s.mem ((c : Thread nD τ).loc main_v1) : S4096x1024.Idx → F .f32) = outAt m c := by
  have e : (win0_1.blk (0 : Fin 1)).view.read (Elt F) ((dats m ρ 0 c).arrAt (1 : Fin 2) cfg0.N) = outAt m c := by
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  rw [← e, ← h.1 (1 : Fin 2)]
  funext i
  refine congrArg (s.mem ((c : Thread nD τ).loc main_v1)) (funext fun a => Fin.ext ?_)
  match a with
  | ⟨0, _⟩ => show (i 0).val = 0 * 4096 + 1 * (i 0).val; omega
  | ⟨1, _⟩ => show (i 1).val = 0 * 1024 + 1 * (i 1).val; omega

/-- The device that has row `r` of `x`. -/
abbrev holder (r : Fin 4096) : Dev nD := ⟨r.val / 512, by show _ < 8; omega⟩

/-- Device `c`'s result is block `c` of the one-device program's. -/
theorem out_block (m : (ℓ : Loc nD τ sig) → Buf (Elt Ideal) ℓ) (x : FVec Ideal ⟨2, ![4096, 4096]⟩ .f32) (w : FVec Ideal ⟨2, ![4096, 8192]⟩ .f32)
    (hx : ∀ c : Dev nD, rowsOf m c = Layout.block ⟨2, ![512, 4096]⟩ ⟨2, ![4096, 4096]⟩ 0 8 c x) (hw : ∀ c : Dev nD, colsOf m c = w) (c : Dev nD) :
    (outAt m c : S4096x1024.Idx → EReal) = Layout.block ⟨2, ![4096, 1024]⟩ ⟨2, ![4096, 8192]⟩ 1 8 c (Whole.result x w) := by
  funext i
  obtain ⟨r, l, rfl⟩ : ∃ (r : Fin 4096) (l : Fin 1024), i = ix2 r l := ⟨i 0, i 1, eq_ix2 i⟩
  have hc : c.val < 8 := c.isLt
  obtain ⟨l', hl⟩ : ∃ l' : Fin 8192, l'.val = 1024 * c.val + l.val := ⟨⟨1024 * c.val + l.val, by omega⟩, rfl⟩
  have e : (show Layout.Tiles ⟨2, ![4096, 1024]⟩ ⟨2, ![4096, 8192]⟩ 1 8 from by decide).idx c (ix2 r l) = ix2 r l' := by
    refine funext fun a => Fin.ext ?_
    match a with
    | ⟨0, _⟩ => rfl
    | ⟨1, _⟩ => show c.val * 1024 + l.val = l'.val; omega
  rw [outAt_at m c r l (holder r) ⟨r.val % 512, Nat.mod_lt _ (by decide)⟩ l' (by show r.val = 512 * (r.val / 512) + r.val % 512; omega) hl,
    Layout.block_apply, e, Whole.result_at]
  unfold dot
  refine congrArg gelu (Finset.sum_congr rfl fun k _ => ?_)
  rw [hw, hx, Layout.block_apply]
  refine congrArg (fun j => x j * w (ix2 k l')) (funext fun a => Fin.ext ?_)
  match a with
  | ⟨0, _⟩ => show r.val / 512 * 512 + r.val % 512 = r.val; omega
  | ⟨1, _⟩ => rfl

/-- The one-device program runs, and leaves its arguments as they were; it has no semaphore. -/
theorem frame_whole : Cert.quiescent_ReferenceIdeal := fun m ρ _ =>
  (θ_run (Cert.ReferenceIdeal.defs (F := Ideal)) _ _).mono (fun r h => ⟨fun c => ⟨(h c).2.1, (h c).2.2⟩, sem_eq_zero_of_no_sems rfl r.2⟩)
    (Whole.run_main (F := Ideal) m ρ)

/-- On the extended reals every device's result is its block of the one-device program's. -/
theorem same_result : Cert.algebraic_KernelIdeal_ReferenceIdeal := fun m ρ m' ρ' _ hm => by
  refine ⟨Whole.result (F := Ideal) (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run (defs (F := Ideal)) _ _).mono (fun _ h c => ⟨(final_out m ρ (h.1 c)).trans (out_block m _ _ (fun c => (hm c).1) (fun c => (hm c).2) c),
      final_x m ρ (h.1 c), (h.1 c).2⟩) (run_main (F := Ideal) m ρ)
  · exact (θ_run (Cert.ReferenceIdeal.defs (F := Ideal)) _ _).mono (fun _ h => h 0) (Whole.run_main (F := Ideal) m' ρ')

end Cert.Exchange

end
-- ==== Proof.lean ====
/- The certificate's claims, put together: the three frames, that the idealization changes no operation, and that on the
   extended reals each device's result is its block of the one-device program's (Proof/Claims.lean). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Claims

@[expose] public section

noncomputable section

namespace Cert.Proof

theorem claim : Cert.Claim :=
  ⟨Cert.Kernel.Gen.facts, Cert.KernelIdeal.Gen.facts, Cert.ReferenceIdeal.Gen.facts,
    Cert.Exchange.frame_kernel, Cert.Exchange.frame_ideal, Cert.Exchange.frame_whole, trivial, Cert.Exchange.same_result⟩

end Cert.Proof

end
